-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_invert [hPre_weights_invert : Cert.Pre_weights_invert.Facts] (m : (ℓ : Loc Cert.KernelIdeal.nD Cert.KernelIdeal.τ Cert.KernelIdeal.sig) → Buf (Elt Ideal) ℓ) : Prop :=
  ∀ c : Dev Cert.KernelIdeal.nD,
    (Cert.Pre_weights_invert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_weights_invert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_weights_invert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_invert [hPre_weights_invert : Cert.Pre_weights_invert.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_invert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_weights_invert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_weights_invert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_weights_invert [hKernelIdeal : Cert.KernelIdeal.Facts] [hPre_weights_invert : Cert.Pre_weights_invert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_invert m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_weights_invert [hReferenceIdeal : Cert.ReferenceIdeal.Facts] [hPre_weights_invert : Cert.Pre_weights_invert.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_invert m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_bw" .f32 0x42C80000#32 ((536870912 / 5368709 : ℝ) : EReal)

def algebraic_KernelIdeal_ReferenceIdeal_pre_weights_invert [hKernelIdeal : Cert.KernelIdeal.Facts] [hReferenceIdeal : Cert.ReferenceIdeal.Facts] [hPre_weights_invert : Cert.Pre_weights_invert.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_invert m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_weights_invert : Cert.Pre_weights_invert.Facts),
    quiescent_Kernel (hKernel := hKernel)
    ∧ quiescent_KernelIdeal (hKernelIdeal := hKernelIdeal)
    ∧ quiescent_KernelIdeal_pre_weights_invert (hKernelIdeal := hKernelIdeal) (hPre_weights_invert := hPre_weights_invert)
    ∧ quiescent_ReferenceIdeal (hReferenceIdeal := hReferenceIdeal)
    ∧ quiescent_ReferenceIdeal_pre_weights_invert (hReferenceIdeal := hReferenceIdeal) (hPre_weights_invert := hPre_weights_invert)
    ∧ preserves_Kernel_KernelIdeal
    ∧ algebraic_KernelIdeal_ReferenceIdeal_pre_weights_invert (hKernelIdeal := hKernelIdeal) (hReferenceIdeal := hReferenceIdeal) (hPre_weights_invert := hPre_weights_invert)
-- ==== Pre_weights_invert.lean ====
abbrev S4x1x512x512 : Shape := ⟨4, ![4, 1, 512, 512]⟩
abbrev S4x1x1x1 : Shape := ⟨4, ![4, 1, 1, 1]⟩
abbrev S_ : Shape := ⟨0, ![]⟩

class Facts : Prop where
  bcast_S_S4x1x1x1 : S_.BroadcastsInDim S4x1x1x1 (![] : Fin 0 → Fin S4x1x1x1.rank)

variable [Facts]

def fn_part1 {F : FTy → Type} [FloatOps F] (main_v3 : IVec S4x1x1x1 1) (main_v11 : IVec S4x1x1x1 1) (main_v14 : IVec S4x1x1x1 1) (main_v16 : FVec F S4x1x1x1 .f32) : IVec S4x1x1x1 1 × IVec S4x1x1x1 1 × IVec S4x1x1x1 1 :=
  let main_cst_6 : FVec F S_ .f32 := constant S_ .f32 0x00000000#32
  let main_v17 : FVec F S4x1x1x1 .f32 := broadcastInDim S4x1x1x1 ![] bcast_S_S4x1x1x1 main_cst_6
  let main_v18 : IVec S4x1x1x1 1 := cmpf .une main_v16 main_v17
  let main_v19 : IVec S4x1x1x1 1 := andi main_v14 main_v18
  (main_v3, main_v11, main_v19)

def fn {F : FTy → Type} [FloatOps F] (main_arg0 : FVec F S4x1x512x512 .f32) (main_arg1 : FVec F S4x1x512x512 .f32) (main_arg2 : FVec F S4x1x1x1 .f32) (main_arg3 : FVec F S4x1x1x1 .f32) (main_arg4 : FVec F S4x1x1x1 .f32) : IVec S4x1x1x1 1 × IVec S4x1x1x1 1 × IVec S4x1x1x1 1 :=
  let main_cst : FVec F S_ .f32 := constant S_ .f32 0x358637BD#32
  let main_v0 : FVec F S4x1x1x1 .f32 := broadcastInDim S4x1x1x1 ![] bcast_S_S4x1x1x1 main_cst
  let main_v1 : FVec F S4x1x1x1 .f32 := addf main_arg2 main_v0
  let main_cst_0 : FVec F S_ .f32 := constant S_ .f32 0x00000000#32
  let main_v2 : FVec F S4x1x1x1 .f32 := broadcastInDim S4x1x1x1 ![] bcast_S_S4x1x1x1 main_cst_0
  let main_v3 : IVec S4x1x1x1 1 := cmpf .une main_v1 main_v2
  let main_v4 : FVec F S4x1x1x1 .f32 := Host.absf main_arg3
  let main_cst_1 : FVec F S_ .f32 := constant S_ .f32 0x7F800000#32
  let main_v5 : FVec F S4x1x1x1 .f32 := broadcastInDim S4x1x1x1 ![] bcast_S_S4x1x1x1 main_cst_1
  let main_v6 : IVec S4x1x1x1 1 := cmpf .olt main_v4 main_v5
  let main_cst_2 : FVec F S_ .f32 := constant S_ .f32 0x358637BD#32
  let main_v7 : FVec F S4x1x1x1 .f32 := broadcastInDim S4x1x1x1 ![] bcast_S_S4x1x1x1 main_cst_2
  let main_v8 : FVec F S4x1x1x1 .f32 := addf main_arg3 main_v7
  let main_cst_3 : FVec F S_ .f32 := constant S_ .f32 0x00000000#32
  let main_v9 : FVec F S4x1x1x1 .f32 := broadcastInDim S4x1x1x1 ![] bcast_S_S4x1x1x1 main_cst_3
  let main_v10 : IVec S4x1x1x1 1 := cmpf .une main_v8 main_v9
  let main_v11 : IVec S4x1x1x1 1 := andi main_v6 main_v10
  let main_v12 : FVec F S4x1x1x1 .f32 := Host.absf main_arg4
  let main_cst_4 : FVec F S_ .f32 := constant S_ .f32 0x7F800000#32
  let main_v13 : FVec F S4x1x1x1 .f32 := broadcastInDim S4x1x1x1 ![] bcast_S_S4x1x1x1 main_cst_4
  let main_v14 : IVec S4x1x1x1 1 := cmpf .olt main_v12 main_v13
  let main_cst_5 : FVec F S_ .f32 := constant S_ .f32 0x358637BD#32
  let main_v15 : FVec F S4x1x1x1 .f32 := broadcastInDim S4x1x1x1 ![] bcast_S_S4x1x1x1 main_cst_5
  let main_v16 : FVec F S4x1x1x1 .f32 := addf main_arg4 main_v15
  fn_part1 (F := F) main_v3 main_v11 main_v14 main_v16
-- ==== Kernel.lean ====
abbrev S4x1x512x512 : Shape := ⟨4, ![4, 1, 512, 512]⟩
abbrev S4x1x1x1 : Shape := ⟨4, ![4, 1, 1, 1]⟩
abbrev S4 : Shape := ⟨1, ![4]⟩
abbrev S_ : Shape := ⟨0, ![]⟩
abbrev S4x1 : Shape := ⟨2, ![4, 1]⟩
abbrev S2048x512 : Shape := ⟨2, ![2048, 512]⟩
abbrev S4x1x512x1 : Shape := ⟨4, ![4, 1, 512, 1]⟩
abbrev S4x512 : Shape := ⟨2, ![4, 512]⟩
abbrev S1x1 : Shape := ⟨2, ![1, 1]⟩
abbrev S2x256x512 : Shape := ⟨3, ![2, 256, 512]⟩
abbrev S256x104 : Shape := ⟨2, ![256, 104]⟩
abbrev S2 : Shape := ⟨1, ![2]⟩
abbrev S1 : Shape := ⟨1, ![1]⟩
abbrev S1x256x512 : Shape := ⟨3, ![1, 256, 512]⟩
abbrev S256x512 : Shape := ⟨2, ![256, 512]⟩
abbrev S1x1x1 : Shape := ⟨3, ![1, 1, 1]⟩
abbrev S1x104x512 : Shape := ⟨3, ![1, 104, 512]⟩
abbrev S256x1x512 : Shape := ⟨3, ![256, 1, 512]⟩
abbrev S256x104x512 : Shape := ⟨3, ![256, 104, 512]⟩
abbrev S256x104x128 : Shape := ⟨3, ![256, 104, 128]⟩
abbrev S256x100 : Shape := ⟨2, ![256, 100]⟩
abbrev S256 : Shape := ⟨1, ![256]⟩
abbrev S256x1 : Shape := ⟨2, ![256, 1]⟩
abbrev S1x256x100 : Shape := ⟨3, ![1, 256, 100]⟩
abbrev S4x1x512 : Shape := ⟨3, ![4, 1, 512]⟩
abbrev S4x104x512 : Shape := ⟨3, ![4, 104, 512]⟩
abbrev S4x104x128 : Shape := ⟨3, ![4, 104, 128]⟩
abbrev S4x104 : Shape := ⟨2, ![4, 104]⟩
abbrev S4x100 : Shape := ⟨2, ![4, 100]⟩
abbrev S1x4x1 : Shape := ⟨3, ![1, 4, 1]⟩

abbrev nBuf : Space → Nat
  | .hbm => 47
  | .vmem => 8
  | .smem => 2
  | _ => 0

abbrev bufTy : (tb : Table) → Fin (tcTables nBuf tb) → BufTy
  | .hbm, ⟨0, _⟩ => ⟨S4x1x512x512, .f32⟩
  | .hbm, ⟨1, _⟩ => ⟨S4x1x512x512, .f32⟩
  | .hbm, ⟨2, _⟩ => ⟨S4x1x1x1, .f32⟩
  | .hbm, ⟨3, _⟩ => ⟨S4x1x1x1, .f32⟩
  | .hbm, ⟨4, _⟩ => ⟨S4x1x1x1, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4x1, .f32⟩
  | .hbm, ⟨39, _⟩ => ⟨S2048x512, .f32⟩
  | .hbm, ⟨40, _⟩ => ⟨S2048x512, .f32⟩
  | .hbm, ⟨41, _⟩ => ⟨S4x1x512x1, .f32⟩
  | .hbm, ⟨42, _⟩ => ⟨S4x512, .f32⟩
  | .hbm, ⟨43, _⟩ => ⟨S4x1x512x1, .f32⟩
  | .hbm, ⟨44, _⟩ => ⟨S4x512, .f32⟩
  | .hbm, ⟨45, _⟩ => ⟨S1x1, .f32⟩
  | .hbm, ⟨46, _⟩ => ⟨S_, .f32⟩
  | .local _ .vmem, ⟨0, _⟩ => ⟨S4x512, .f32⟩
  | .local _ .vmem, ⟨1, _⟩ => ⟨S4x512, .f32⟩
  | .local _ .vmem, ⟨2, _⟩ => ⟨S4x1, .f32⟩
  | .local _ .vmem, ⟨3, _⟩ => ⟨S1x1, .f32⟩
  | .local _ .vmem, ⟨4, _⟩ => ⟨S2x256x512, .f32⟩
  | .local _ .vmem, ⟨5, _⟩ => ⟨S2x256x512, .f32⟩
  | .local _ .vmem, ⟨6, _⟩ => ⟨S256x104, .f32⟩
  | .local _ .vmem, ⟨7, _⟩ => ⟨S256x104, .f32⟩
  | .local _ .smem, ⟨0, _⟩ => ⟨S4, .f32⟩
  | .local _ .smem, ⟨1, _⟩ => ⟨S4, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_11 : BitVec 32 := 0#32
  let c4_i32 : BitVec 32 := 4#32
  let v10 : BitVec 32 := Scalar.addi c0_i32_11 c4_i32
  let c1_i32 : BitVec 32 := 1#32
  ⟨c0_i32_11, v10, c1_i32⟩
def k0_off1 (k0_t1 : Fin k0_t1_loop.trips) : Fin 2 → Nat :=
  let c2_i32 : BitVec 32 := 2#32
  let c0_i32_11 : BitVec 32 := 0#32
  let c1_i32 : BitVec 32 := 1#32
  let arg14 : BitVec 32 := Scf.iv c0_i32_11 c1_i32 k0_t1
  let v110 : BitVec 32 := Scalar.muli c2_i32 arg14
  let c1_i32_46 : BitVec 32 := 1#32
  let v111 : BitVec 32 := Scalar.addi v110 c1_i32_46
  let c256_i32 : BitVec 32 := 256#32
  let v112 : BitVec 32 := Scalar.muli v111 c256_i32
  let c0_i32_51 : BitVec 32 := 0#32
  ![v112.toNat, 0]
def k0_off2 (k0_t1 : Fin k0_t1_loop.trips) : Fin 1 → Nat :=
  let c2_i32 : BitVec 32 := 2#32
  let c0_i32_11 : BitVec 32 := 0#32
  let c1_i32 : BitVec 32 := 1#32
  let arg14 : BitVec 32 := Scf.iv c0_i32_11 c1_i32 k0_t1
  let v110 : BitVec 32 := Scalar.muli c2_i32 arg14
  let c0_i32_79 : BitVec 32 := 0#32
  let v141 : BitVec 1 := Scalar.cmpi .sgt v110 c0_i32_79
  let v142 : BitVec 32 := Scalar.extui v141
  let c0_i32_80 : BitVec 32 := 0#32
  let v143 : BitVec 1 := Scalar.cmpi .slt v110 c0_i32_80
  let v144 : BitVec 32 := Scalar.extui v143
  let v145 : BitVec 32 := Scalar.subi v142 v144
  let c2_i32_78 : BitVec 32 := 2#32
  let c0_i32_81 : BitVec 32 := 0#32
  let v146 : BitVec 1 := Scalar.cmpi .sgt c2_i32_78 c0_i32_81
  let v147 : BitVec 32 := Scalar.extui v146
  let c0_i32_82 : BitVec 32 := 0#32
  let v148 : BitVec 1 := Scalar.cmpi .slt c2_i32_78 c0_i32_82
  let v149 : BitVec 32 := Scalar.extui v148
  let v150 : BitVec 32 := Scalar.subi v147 v149
  let v151 : BitVec 1 := Scalar.cmpi .ne v145 v150
  let v152 : BitVec 32 := Scalar.remsi v110 c2_i32_78
  let c0_i32_83 : BitVec 32 := 0#32
  let v153 : BitVec 1 := Scalar.cmpi .ne v152 c0_i32_83
  let v154 : BitVec 1 := Scalar.andi v151 v153
  let v140 : BitVec 32 := Scalar.divsi v110 c2_i32_78
  let c1_i32_84 : BitVec 32 := 1#32
  let v155 : BitVec 32 := Scalar.subi v140 c1_i32_84
  let v156 : BitVec 32 := Scalar.select v154 v155 v140
  let v249 : Index := Scalar.indexCast v156
  ![v249.toNat]
def k0_cond1 (k0_t1 : Fin k0_t1_loop.trips) : BitVec 1 :=
  let c0_i32_11 : BitVec 32 := 0#32
  let c1_i32 : BitVec 32 := 1#32
  let arg14 : BitVec 32 := Scf.iv c0_i32_11 c1_i32 k0_t1
  let c1_i32_111 : BitVec 32 := 1#32
  let v257 : BitVec 32 := Scalar.addi arg14 c1_i32_111
  let c4_i32_112 : BitVec 32 := 4#32
  let v258 : BitVec 1 := Scalar.cmpi .slt v257 c4_i32_112
  let v259 : BitVec 32 := Scalar.extui v258
  let c0_i32_113 : BitVec 32 := 0#32
  let v260 : BitVec 1 := Scalar.cmpi .ne v259 c0_i32_113
  v260

def k0_off3 (k0_t1 : Fin k0_t1_loop.trips) : Fin 2 → Nat :=
  let c2_i32 : BitVec 32 := 2#32
  let c0_i32_11 : BitVec 32 := 0#32
  let c1_i32 : BitVec 32 := 1#32
  let arg14 : BitVec 32 := Scf.iv c0_i32_11 c1_i32 k0_t1
  let v110 : BitVec 32 := Scalar.muli c2_i32 arg14
  let c2_i32_167 : BitVec 32 := 2#32
  let v395 : BitVec 32 := Scalar.addi v110 c2_i32_167
  let c256_i32_168 : BitVec 32 := 256#32
  let v396 : BitVec 32 := Scalar.muli v395 c256_i32_168
  let c0_i32_173 : BitVec 32 := 0#32
  ![v396.toNat, 0]
def k0_off4 (k0_t1 : Fin k0_t1_loop.trips) : Fin 1 → Nat :=
  let c2_i32 : BitVec 32 := 2#32
  let c0_i32_11 : BitVec 32 := 0#32
  let c1_i32 : BitVec 32 := 1#32
  let arg14 : BitVec 32 := Scf.iv c0_i32_11 c1_i32 k0_t1
  let v110 : BitVec 32 := Scalar.muli c2_i32 arg14
  let c1_i32_114 : BitVec 32 := 1#32
  let v261 : BitVec 32 := Scalar.addi v110 c1_i32_114
  let c0_i32_135 : BitVec 32 := 0#32
  let v279 : BitVec 1 := Scalar.cmpi .sgt v261 c0_i32_135
  let v280 : BitVec 32 := Scalar.extui v279
  let c0_i32_136 : BitVec 32 := 0#32
  let v281 : BitVec 1 := Scalar.cmpi .slt v261 c0_i32_136
  let v282 : BitVec 32 := Scalar.extui v281
  let v283 : BitVec 32 := Scalar.subi v280 v282
  let c2_i32_134 : BitVec 32 := 2#32
  let c0_i32_137 : BitVec 32 := 0#32
  let v284 : BitVec 1 := Scalar.cmpi .sgt c2_i32_134 c0_i32_137
  let v285 : BitVec 32 := Scalar.extui v284
  let c0_i32_138 : BitVec 32 := 0#32
  let v286 : BitVec 1 := Scalar.cmpi .slt c2_i32_134 c0_i32_138
  let v287 : BitVec 32 := Scalar.extui v286
  let v288 : BitVec 32 := Scalar.subi v285 v287
  let v289 : BitVec 1 := Scalar.cmpi .ne v283 v288
  let v290 : BitVec 32 := Scalar.remsi v261 c2_i32_134
  let c0_i32_139 : BitVec 32 := 0#32
  let v291 : BitVec 1 := Scalar.cmpi .ne v290 c0_i32_139
  let v292 : BitVec 1 := Scalar.andi v289 v291
  let v278 : BitVec 32 := Scalar.divsi v261 c2_i32_134
  let c1_i32_140 : BitVec 32 := 1#32
  let v293 : BitVec 32 := Scalar.subi v278 c1_i32_140
  let v294 : BitVec 32 := Scalar.select v292 v293 v278
  let v387 : Index := Scalar.indexCast v294
  ![v387.toNat]
abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_bw" => some ((536870912 / 5368709 : ℝ) : EReal)
  | _ => none
-- ==== ReferenceIdeal.lean ====
abbrev S4x1x512x512 : Shape := ⟨4, ![4, 1, 512, 512]⟩
abbrev S4x1x1x1 : Shape := ⟨4, ![4, 1, 1, 1]⟩
abbrev S100 : Shape := ⟨1, ![100]⟩
abbrev S_ : Shape := ⟨0, ![]⟩
abbrev S4x1x1 : Shape := ⟨3, ![4, 1, 1]⟩
abbrev S4x512x512 : Shape := ⟨3, ![4, 512, 512]⟩
abbrev S4x512x512x1 : Shape := ⟨4, ![4, 512, 512, 1]⟩
abbrev S1x1x1x100 : Shape := ⟨4, ![1, 1, 1, 100]⟩
abbrev S4x512x512x100 : Shape := ⟨4, ![4, 512, 512, 100]⟩
abbrev S4x512x100 : Shape := ⟨3, ![4, 512, 100]⟩
abbrev S4x512 : Shape := ⟨2, ![4, 512]⟩
abbrev S4x512x1 : Shape := ⟨3, ![4, 512, 1]⟩
abbrev S4x1x512 : Shape := ⟨3, ![4, 1, 512]⟩
abbrev S1x1x100 : Shape := ⟨3, ![1, 1, 100]⟩
abbrev S4x100 : Shape := ⟨2, ![4, 100]⟩
abbrev S4 : Shape := ⟨1, ![4]⟩
abbrev S4x1 : Shape := ⟨2, ![4, 1]⟩
abbrev S1 : Shape := ⟨1, ![1]⟩
abbrev S2 : Shape := ⟨1, ![2]⟩

abbrev nBuf : Space → Nat
  | .hbm => 211
  | .vmem => 0
  | .smem => 0
  | _ => 0

abbrev hbmTy0_0 (i : Nat) : BufTy := match i % 128 with
  | 0 => ⟨S4x1x512x512, .f32⟩
  | 1 => ⟨S4x1x512x512, .f32⟩
  | 2 => ⟨S4x1x1x1, .f32⟩
  | 3 => ⟨S4x1x1x1, .f32⟩
  | 4 => ⟨S4x1x1x1, .f32⟩
  | 5 => ⟨S100, .f32⟩
  | 6 => ⟨S_, .f32⟩
  | 7 => ⟨S100, .f32⟩
  | 8 => ⟨S100, .f32⟩
  | 9 => ⟨S_, .f32⟩
  | 10 => ⟨S100, .f32⟩
  | 11 => ⟨S100, .f32⟩
  | 12 => ⟨S_, .f32⟩
  | 13 => ⟨S4x1x1x1, .f32⟩
  | 14 => ⟨S4x1x1x1, .f32⟩
  | 15 => ⟨S4x1x1, .f32⟩
  | 16 => ⟨S_, .f32⟩
  | 17 => ⟨S4x1x1, .f32⟩
  | 18 => ⟨S4x1x1, .f32⟩
  | 19 => ⟨S4x1x1, .f32⟩
  | 20 => ⟨S_, .f32⟩
  | 21 => ⟨S4x1x1, .f32⟩
  | 22 => ⟨S4x1x1, .f32⟩
  | 23 => ⟨S4x1x512x512, .f32⟩
  | 24 => ⟨S4x1x512x512, .f32⟩
  | 25 => ⟨S4x1x512x512, .f32⟩
  | 26 => ⟨S4x1x512x512, .f32⟩
  | 27 => ⟨S4x1x512x512, .f32⟩
  | 28 => ⟨S4x1x512x512, .f32⟩
  | 29 => ⟨S4x1x512x512, .f32⟩
  | 30 => ⟨S_, .f32⟩
  | 31 => ⟨S_, .f32⟩
  | 32 => ⟨S_, .f32⟩
  | 33 => ⟨S_, .f32⟩
  | 34 => ⟨S4x512x512, .f32⟩
  | 35 => ⟨S4x512x512, .f32⟩
  | 36 => ⟨S4x512x512x1, .f32⟩
  | 37 => ⟨S1x1x1x100, .f32⟩
  | 38 => ⟨S4x512x512x100, .f32⟩
  | 39 => ⟨S4x512x512x100, .f32⟩
  | 40 => ⟨S4x512x512x100, .f32⟩
  | 41 => ⟨S4x512x512x100, .f32⟩
  | 42 => ⟨S_, .f32⟩
  | 43 => ⟨S4x512x512x100, .f32⟩
  | 44 => ⟨S4x512x512x100, .f32⟩
  | 45 => ⟨S_, .f32⟩
  | 46 => ⟨S4x512x512x100, .f32⟩
  | 47 => ⟨S4x512x512x100, .i1⟩
  | 48 => ⟨S_, .f32⟩
  | 49 => ⟨S4x512x512x100, .f32⟩
  | 50 => ⟨S4x512x512x100, .f32⟩
  | 51 => ⟨S_, .f32⟩
  | 52 => ⟨S_, .f32⟩
  | 53 => ⟨S4x512x512x100, .f32⟩
  | 54 => ⟨S4x512x512x100, .f32⟩
  | 55 => ⟨S_, .f32⟩
  | 56 => ⟨S4x512x100, .f32⟩
  | 57 => ⟨S_, .f32⟩
  | 58 => ⟨S4x512, .f32⟩
  | 59 => ⟨S4x512x1, .f32⟩
  | 60 => ⟨S_, .f32⟩
  | 61 => ⟨S4x512x1, .f32⟩
  | 62 => ⟨S4x512x1, .f32⟩
  | 63 => ⟨S4x512x100, .f32⟩
  | 64 => ⟨S4x512x100, .f32⟩
  | 65 => ⟨S_, .f32⟩
  | 66 => ⟨S4x512x100, .f32⟩
  | 67 => ⟨S4x512x100, .f32⟩
  | 68 => ⟨S4x512x512x1, .f32⟩
  | 69 => ⟨S1x1x1x100, .f32⟩
  | 70 => ⟨S4x512x512x100, .f32⟩
  | 71 => ⟨S4x512x512x100, .f32⟩
  | 72 => ⟨S4x512x512x100, .f32⟩
  | 73 => ⟨S4x512x512x100, .f32⟩
  | 74 => ⟨S_, .f32⟩
  | 75 => ⟨S4x512x512x100, .f32⟩
  | 76 => ⟨S4x512x512x100, .f32⟩
  | 77 => ⟨S_, .f32⟩
  | 78 => ⟨S4x512x512x100, .f32⟩
  | 79 => ⟨S4x512x512x100, .i1⟩
  | 80 => ⟨S_, .f32⟩
  | 81 => ⟨S4x512x512x100, .f32⟩
  | 82 => ⟨S4x512x512x100, .f32⟩
  | 83 => ⟨S_, .f32⟩
  | 84 => ⟨S_, .f32⟩
  | 85 => ⟨S4x512x512x100, .f32⟩
  | 86 => ⟨S4x512x512x100, .f32⟩
  | 87 => ⟨S_, .f32⟩
  | 88 => ⟨S4x512x100, .f32⟩
  | 89 => ⟨S_, .f32⟩
  | 90 => ⟨S4x512, .f32⟩
  | 91 => ⟨S4x512x1, .f32⟩
  | 92 => ⟨S_, .f32⟩
  | 93 => ⟨S4x512x1, .f32⟩
  | 94 => ⟨S4x512x1, .f32⟩
  | 95 => ⟨S4x512x100, .f32⟩
  | 96 => ⟨S4x512x100, .f32⟩
  | 97 => ⟨S_, .f32⟩
  | 98 => ⟨S4x512x100, .f32⟩
  | 99 => ⟨S4x512x100, .f32⟩
  | 100 => ⟨S4x512x100, .f32⟩
  | 101 => ⟨S4x512x100, .f32⟩
  | 102 => ⟨S4x512x100, .f32⟩
  | 103 => ⟨S4x512x100, .f32⟩
  | 104 => ⟨S_, .f32⟩
  | 105 => ⟨S4x512, .f32⟩
  | 106 => ⟨S4x1x512, .f32⟩
  | 107 => ⟨S4x512x1, .f32⟩
  | 108 => ⟨S4x512, .f32⟩
  | 109 => ⟨S4x512x1, .f32⟩
  | 110 => ⟨S1x1x100, .f32⟩
  | 111 => ⟨S4x512x100, .f32⟩
  | 112 => ⟨S4x512x100, .f32⟩
  | 113 => ⟨S4x512x100, .f32⟩
  | 114 => ⟨S4x512x100, .f32⟩
  | 115 => ⟨S_, .f32⟩
  | 116 => ⟨S4x512x100, .f32⟩
  | 117 => ⟨S4x512x100, .f32⟩
  | 118 => ⟨S_, .f32⟩
  | 119 => ⟨S4x512x100, .f32⟩
  | 120 => ⟨S4x512x100, .i1⟩
  | 121 => ⟨S_, .f32⟩
  | 122 => ⟨S4x512x100, .f32⟩
  | 123 => ⟨S4x512x100, .f32⟩
  | 124 => ⟨S_, .f32⟩
  | 125 => ⟨S_, .f32⟩
  | 126 => ⟨S4x512x100, .f32⟩
  | 127 => ⟨S4x512x100, .f32⟩
  | _ => ⟨S4x1x512x512, .f32⟩

abbrev hbmTy0_1 (i : Nat) : BufTy := match i % 128 with
  | 0 => ⟨S_, .f32⟩
  | 1 => ⟨S4x100, .f32⟩
  | 2 => ⟨S_, .f32⟩
  | 3 => ⟨S4, .f32⟩
  | 4 => ⟨S4x1, .f32⟩
  | 5 => ⟨S_, .f32⟩
  | 6 => ⟨S4x1, .f32⟩
  | 7 => ⟨S4x1, .f32⟩
  | 8 => ⟨S4x100, .f32⟩
  | 9 => ⟨S4x100, .f32⟩
  | 10 => ⟨S_, .f32⟩
  | 11 => ⟨S4x100, .f32⟩
  | 12 => ⟨S4x100, .f32⟩
  | 13 => ⟨S4x512x1, .f32⟩
  | 14 => ⟨S4x512, .f32⟩
  | 15 => ⟨S4x512x1, .f32⟩
  | 16 => ⟨S1x1x100, .f32⟩
  | 17 => ⟨S4x512x100, .f32⟩
  | 18 => ⟨S4x512x100, .f32⟩
  | 19 => ⟨S4x512x100, .f32⟩
  | 20 => ⟨S4x512x100, .f32⟩
  | 21 => ⟨S_, .f32⟩
  | 22 => ⟨S4x512x100, .f32⟩
  | 23 => ⟨S4x512x100, .f32⟩
  | 24 => ⟨S_, .f32⟩
  | 25 => ⟨S4x512x100, .f32⟩
  | 26 => ⟨S4x512x100, .i1⟩
  | 27 => ⟨S_, .f32⟩
  | 28 => ⟨S4x512x100, .f32⟩
  | 29 => ⟨S4x512x100, .f32⟩
  | 30 => ⟨S_, .f32⟩
  | 31 => ⟨S_, .f32⟩
  | 32 => ⟨S4x512x100, .f32⟩
  | 33 => ⟨S4x512x100, .f32⟩
  | 34 => ⟨S_, .f32⟩
  | 35 => ⟨S4x100, .f32⟩
  | 36 => ⟨S_, .f32⟩
  | 37 => ⟨S4, .f32⟩
  | 38 => ⟨S4x1, .f32⟩
  | 39 => ⟨S_, .f32⟩
  | 40 => ⟨S4x1, .f32⟩
  | 41 => ⟨S4x1, .f32⟩
  | 42 => ⟨S4x100, .f32⟩
  | 43 => ⟨S4x100, .f32⟩
  | 44 => ⟨S_, .f32⟩
  | 45 => ⟨S4x100, .f32⟩
  | 46 => ⟨S4x100, .f32⟩
  | 47 => ⟨S4x100, .f32⟩
  | 48 => ⟨S4x100, .f32⟩
  | 49 => ⟨S4x100, .f32⟩
  | 50 => ⟨S4x100, .f32⟩
  | 51 => ⟨S_, .f32⟩
  | 52 => ⟨S4, .f32⟩
  | 53 => ⟨S_, .f32⟩
  | 54 => ⟨S4x1x512, .f32⟩
  | 55 => ⟨S_, .i32⟩
  | 56 => ⟨S1, .i32⟩
  | 57 => ⟨S_, .i32⟩
  | 58 => ⟨S1, .i32⟩
  | 59 => ⟨S2, .i32⟩
  | 60 => ⟨S4x1x512, .f32⟩
  | 61 => ⟨S4x1x512, .f32⟩
  | 62 => ⟨S4x1x512, .f32⟩
  | 63 => ⟨S4x1x512, .f32⟩
  | 64 => ⟨S4x1x512, .f32⟩
  | 65 => ⟨S4x1x512, .f32⟩
  | 66 => ⟨S4x1x512, .f32⟩
  | 67 => ⟨S4x1x512, .f32⟩
  | 68 => ⟨S4x1x512, .f32⟩
  | 69 => ⟨S4x1x512, .f32⟩
  | 70 => ⟨S4x1x512, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S4x1x512x512, .f32⟩

abbrev hbmTy (i : Nat) : BufTy := match i / 128 with
  | 0 => hbmTy0_0 i
  | 1 => hbmTy0_1 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_call0_v0 : Ref sig .tc := ⟨.hbm, 52, rfl⟩
abbrev main_call0_v1 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_call1_v0 : Ref sig .tc := ⟨.hbm, 84, rfl⟩
abbrev main_call1_v1 : Ref sig .tc := ⟨.hbm, 85, rfl⟩
abbrev main_v58 : Ref sig .tc := ⟨.hbm, 86, rfl⟩
abbrev main_cst_18 : Ref sig .tc := ⟨.hbm, 87, rfl⟩
abbrev main_v59 : Ref sig .tc := ⟨.hbm, 88, rfl⟩
abbrev main_cst_19 : Ref sig .tc := ⟨.hbm, 89, rfl⟩
abbrev main_v60 : Ref sig .tc := ⟨.hbm, 90, rfl⟩
abbrev main_v61 : Ref sig .tc := ⟨.hbm, 91, rfl⟩
abbrev main_cst_20 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_21 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_22 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_23 : Ref sig .tc := ⟨.hbm, 115, rfl⟩
abbrev main_v82 : Ref sig .tc := ⟨.hbm, 116, rfl⟩
abbrev main_v83 : Ref sig .tc := ⟨.hbm, 117, rfl⟩
abbrev main_cst_24 : Ref sig .tc := ⟨.hbm, 118, rfl⟩
abbrev main_v84 : Ref sig .tc := ⟨.hbm, 119, rfl⟩
abbrev main_v85 : Ref sig .tc := ⟨.hbm, 120, rfl⟩
abbrev main_cst_25 : Ref sig .tc := ⟨.hbm, 121, rfl⟩
abbrev main_v86 : Ref sig .tc := ⟨.hbm, 122, rfl⟩
abbrev main_v87 : Ref sig .tc := ⟨.hbm, 123, rfl⟩
abbrev main_cst_26 : Ref sig .tc := ⟨.hbm, 124, rfl⟩
abbrev main_call2_v0 : Ref sig .tc := ⟨.hbm, 125, rfl⟩
abbrev main_call2_v1 : Ref sig .tc := ⟨.hbm, 126, rfl⟩
abbrev main_v88 : Ref sig .tc := ⟨.hbm, 127, rfl⟩
abbrev main_cst_27 : Ref sig .tc := ⟨.hbm, 128, rfl⟩
abbrev main_v89 : Ref sig .tc := ⟨.hbm, 129, rfl⟩
abbrev main_cst_28 : Ref sig .tc := ⟨.hbm, 130, rfl⟩
abbrev main_v90 : Ref sig .tc := ⟨.hbm, 131, rfl⟩
abbrev main_v91 : Ref sig .tc := ⟨.hbm, 132, rfl⟩
abbrev main_cst_29 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_30 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_31 : Ref sig .tc := ⟨.hbm, 149, rfl⟩
abbrev main_v106 : Ref sig .tc := ⟨.hbm, 150, rfl⟩
abbrev main_v107 : Ref sig .tc := ⟨.hbm, 151, rfl⟩
abbrev main_cst_32 : Ref sig .tc := ⟨.hbm, 152, rfl⟩
abbrev main_v108 : Ref sig .tc := ⟨.hbm, 153, rfl⟩
abbrev main_v109 : Ref sig .tc := ⟨.hbm, 154, rfl⟩
abbrev main_cst_33 : Ref sig .tc := ⟨.hbm, 155, rfl⟩
abbrev main_v110 : Ref sig .tc := ⟨.hbm, 156, rfl⟩
abbrev main_v111 : Ref sig .tc := ⟨.hbm, 157, rfl⟩
abbrev main_cst_34 : Ref sig .tc := ⟨.hbm, 158, rfl⟩
abbrev main_call3_v0 : Ref sig .tc := ⟨.hbm, 159, rfl⟩
abbrev main_call3_v1 : Ref sig .tc := ⟨.hbm, 160, rfl⟩
abbrev main_v112 : Ref sig .tc := ⟨.hbm, 161, rfl⟩
abbrev main_cst_35 : Ref sig .tc := ⟨.hbm, 162, rfl⟩
abbrev main_v113 : Ref sig .tc := ⟨.hbm, 163, rfl⟩
abbrev main_cst_36 : Ref sig .tc := ⟨.hbm, 164, rfl⟩
abbrev main_v114 : Ref sig .tc := ⟨.hbm, 165, rfl⟩
abbrev main_v115 : Ref sig .tc := ⟨.hbm, 166, rfl⟩
abbrev main_cst_37 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_38 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_39 : Ref sig .tc := ⟨.hbm, 179, rfl⟩
abbrev main_v126 : Ref sig .tc := ⟨.hbm, 180, rfl⟩
abbrev main_cst_40 : Ref sig .tc := ⟨.hbm, 181, rfl⟩
abbrev main_v127 : Ref sig .tc := ⟨.hbm, 182, rfl⟩
abbrev main_c : Ref sig .tc := ⟨.hbm, 183, rfl⟩
abbrev main_v128 : Ref sig .tc := ⟨.hbm, 184, rfl⟩
abbrev main_c_41 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_42 : Ref sig .tc := ⟨.hbm, 199, rfl⟩
abbrev main_v142 : Ref sig .tc := ⟨.hbm, 200, rfl⟩
abbrev main_cst_43 : Ref sig .tc := ⟨.hbm, 201, rfl⟩
abbrev main_v143 : Ref sig .tc := ⟨.hbm, 202, rfl⟩
abbrev main_cst_44 : Ref sig .tc := ⟨.hbm, 203, rfl⟩
abbrev main_v144 : Ref sig .tc := ⟨.hbm, 204, rfl⟩
abbrev main_cst_45 : Ref sig .tc := ⟨.hbm, 205, rfl⟩
abbrev main_v145 : Ref sig .tc := ⟨.hbm, 206, rfl⟩
abbrev main_v146 : Ref sig .tc := ⟨.hbm, 207, rfl⟩
abbrev main_cst_46 : Ref sig .tc := ⟨.hbm, 208, rfl⟩
abbrev main_v147 : Ref sig .tc := ⟨.hbm, 209, rfl⟩
abbrev main_v148 : Ref sig .tc := ⟨.hbm, 210, rfl⟩

abbrev nD : Nat := 1
abbrev τ : Topo := Topo.v7x

variable {F : FTy → Type} [FloatOps F]
-- ==== Proof.IdealNames.lean ====
/-
  The names of the pieces the kernel moves: the eight blocks of 256 rows of each of its two large arrays, the two
  slots of each of its two buffers, the two counters of each; that the slices the body takes are those pieces; and
  the resources of a piece at rest, held, or on its way.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.RunI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp (MT nD τ sig Unit (Elt F) ℕ (UU nD τ) ℕ)} (e : P = Q) : P ⊢ Q := e ▸ .rfl

/-! ## The pieces' names -/

abbrev xM : Memref sig .tc .hbm S2048x512 .f32 := Memref.whole main_v25
abbrev tM : Memref sig .tc .hbm S2048x512 .f32 := Memref.whole main_v26
abbrev bxM : Memref sig .tc .vmem S2x256x512 .f32 := Memref.whole cc0_scratch0
abbrev btM : Memref sig .tc .vmem S2x256x512 .f32 := Memref.whole cc0_scratch1
abbrev sxM : Memref sig .tc .vmem S256x104 .f32 := Memref.whole cc0_scratch2
abbrev stM : Memref sig .tc .vmem S256x104 .f32 := Memref.whole cc0_scratch3

abbrev blkOff (b : Fin 8) : Fin 2 → Nat := ![b.val * 256, 0]
theorem blkOff_inb (b : Fin 8) : ∀ a, blkOff b a + S256x512.size a ≤ S2048x512.size a := by
  have := b.isLt; intro a; fin_cases a
  · show b.val * 256 + 256 ≤ 2048; omega
  · show 0 + 512 ≤ 512; omega
abbrev slotOff (s : Fin 2) : Fin 3 → Nat := ![s.val, 0, 0]
theorem slotOff_inb (s : Fin 2) : ∀ a, slotOff s a + S1x256x512.size a ≤ S2x256x512.size a := by
  have := s.isLt; intro a; fin_cases a
  · show s.val + 1 ≤ 2; omega
  · show 0 + 256 ≤ 256; omega
  · show 0 + 512 ≤ 512; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of the first array. -/
def xB (b : Fin 8) : Memref sig .tc .hbm S256x512 .f32 := xM.slice (Rect.unit (s := S2048x512) (blkOff b) S256x512.size (blkOff_inb b)) (fun _ => rfl)
/-- Block `b` of the second array. -/
def tB (b : Fin 8) : Memref sig .tc .hbm S256x512 .f32 := tM.slice (Rect.unit (s := S2048x512) (blkOff b) S256x512.size (blkOff_inb b)) (fun _ => rfl)
/-- Slot `s` of the first buffer. -/
def xS (s : Fin 2) : Memref sig .tc .vmem S256x512 .f32 :=
  (bxM.slice (Rect.unit (s := S2x256x512) (slotOff s) S1x256x512.size (slotOff_inb s)) (fun _ => rfl)).squeeze S256x512 squeezes_S1x256x512_S256x512
/-- Slot `s` of the second buffer. -/
def tS (s : Fin 2) : Memref sig .tc .vmem S256x512 .f32 :=
  (btM.slice (Rect.unit (s := S2x256x512) (slotOff s) S1x256x512.size (slotOff_inb s)) (fun _ => rfl)).squeeze S256x512 squeezes_S1x256x512_S256x512
/-- The counters of the first buffer's slots. -/
def xC (s : Fin 2) : DmaSems sig S_ := (cc0_scratch4.slice (Rect.unit (s := S2) (semOff s) S1.size (semOff_inb s))).squeeze S_ squeezes_S1_S_
/-- The counters of the second buffer's slots. -/
def tC (s : Fin 2) : DmaSems sig S_ := (cc0_scratch5.slice (Rect.unit (s := S2) (semOff s) S1.size (semOff_inb s))).squeeze S_ squeezes_S1_S_

instance (s : Fin 2) : ClosedOff (slotOff s) := ⟨slotOff s, rfl⟩
instance (b : Fin 8) : ClosedOff (blkOff b) := ⟨blkOff b, rfl⟩

/-! ## The offsets a trip computes -/

theorem off1_eq : ∀ k : Fin k0_t1_loop.trips, k0_off1 k = blkOff (Ring.bk 8 (2 * k.val + 1)) := by decide
theorem off3_eq : ∀ k : Fin k0_t1_loop.trips, k.val < 3 → k0_off3 k = blkOff (Ring.bk 8 (2 * (k.val + 1))) := by decide
theorem cond1_lt : ∀ k : Fin k0_t1_loop.trips, k.val < 3 → k0_cond1 k = 1#1 := by decide
theorem cond1_ge : ∀ k : Fin k0_t1_loop.trips, k.val = 3 → ¬ k0_cond1 k = 1#1 := by decide
theorem trips_eq : k0_t1_loop.trips = 4 := by decide

private theorem xC_congr {off : Fin 1 → Nat} {s : Fin 2} (e : off = semOff s) (hh) :
    (cc0_scratch4.slice (Rect.unit (s := S2) off S1.size hh)).squeeze S_ squeezes_S1_S_ = xC s :=
  congrArg (fun A : DmaSems sig S1 => A.squeeze S_ squeezes_S1_S_) (SemArray.slice_unit_congr _ e _ _)
private theorem tC_congr {off : Fin 1 → Nat} {s : Fin 2} (e : off = semOff s) (hh) :
    (cc0_scratch5.slice (Rect.unit (s := S2) off S1.size hh)).squeeze S_ squeezes_S1_S_ = tC s :=
  congrArg (fun A : DmaSems sig S1 => A.squeeze S_ squeezes_S1_S_) (SemArray.slice_unit_congr _ e _ _)
private theorem xS_congr {off : Fin 3 → Nat} {s : Fin 2} (e : off = slotOff s) (hh hs) :
    (bxM.slice (Rect.unit (s := S2x256x512) off S1x256x512.size hh) hs).squeeze S256x512 squeezes_S1x256x512_S256x512 = xS s :=
  congrArg (fun M : Memref sig .tc .vmem S1x256x512 .f32 => M.squeeze S256x512 squeezes_S1x256x512_S256x512) (Memref.slice_unit_congr _ e _ _ _ _)
private theorem tS_congr {off : Fin 3 → Nat} {s : Fin 2} (e : off = slotOff s) (hh hs) :
    (btM.slice (Rect.unit (s := S2x256x512) off S1x256x512.size hh) hs).squeeze S256x512 squeezes_S1x256x512_S256x512 = tS s :=
  congrArg (fun M : Memref sig .tc .vmem S1x256x512 .f32 => M.squeeze S256x512 squeezes_S1x256x512_S256x512) (Memref.slice_unit_congr _ e _ _ _ _)
private theorem xB_congr {off : Fin 2 → Nat} {b : Fin 8} (e : off = blkOff b) (hh hs) :
    xM.slice (Rect.unit (s := S2048x512) off S256x512.size hh) hs = xB b := Memref.slice_unit_congr _ e _ _ _ (fun _ => rfl)
private theorem tB_congr {off : Fin 2 → Nat} {b : Fin 8} (e : off = blkOff b) (hh hs) :
    tM.slice (Rect.unit (s := S2048x512) off S256x512.size hh) hs = tB b := Memref.slice_unit_congr _ e _ _ _ (fun _ => rfl)

@[sl_canon] theorem xC0 (hh) : (cc0_scratch4.slice (Rect.unit (s := S2) ![0] S1.size hh)).squeeze S_ squeezes_S1_S_ = xC 0 := xC_congr (by decide) _
@[sl_canon] theorem xC1 (hh) : (cc0_scratch4.slice (Rect.unit (s := S2) ![1] S1.size hh)).squeeze S_ squeezes_S1_S_ = xC 1 := xC_congr (by decide) _
@[sl_canon] theorem tC0 (hh) : (cc0_scratch5.slice (Rect.unit (s := S2) ![0] S1.size hh)).squeeze S_ squeezes_S1_S_ = tC 0 := tC_congr (by decide) _
@[sl_canon] theorem tC1 (hh) : (cc0_scratch5.slice (Rect.unit (s := S2) ![1] S1.size hh)).squeeze S_ squeezes_S1_S_ = tC 1 := tC_congr (by decide) _
@[sl_canon] theorem xS0 (hh hs) : (bxM.slice (Rect.unit (s := S2x256x512) ![0, 0, 0] S1x256x512.size hh) hs).squeeze S256x512 squeezes_S1x256x512_S256x512 = xS 0 := xS_congr (by decide) _ _
@[sl_canon] theorem xS1 (hh hs) : (bxM.slice (Rect.unit (s := S2x256x512) ![1, 0, 0] S1x256x512.size hh) hs).squeeze S256x512 squeezes_S1x256x512_S256x512 = xS 1 := xS_congr (by decide) _ _
@[sl_canon] theorem tS0 (hh hs) : (btM.slice (Rect.unit (s := S2x256x512) ![0, 0, 0] S1x256x512.size hh) hs).squeeze S256x512 squeezes_S1x256x512_S256x512 = tS 0 := tS_congr (by decide) _ _
@[sl_canon] theorem tS1 (hh hs) : (btM.slice (Rect.unit (s := S2x256x512) ![1, 0, 0] S1x256x512.size hh) hs).squeeze S256x512 squeezes_S1x256x512_S256x512 = tS 1 := tS_congr (by decide) _ _
@[sl_canon] theorem xB0 (hh hs) : xM.slice (Rect.unit (s := S2048x512) ![0, 0] S256x512.size hh) hs = xB (Ring.bk 8 (2 * 0)) := xB_congr (by decide) _ _
@[sl_canon] theorem tB0 (hh hs) : tM.slice (Rect.unit (s := S2048x512) ![0, 0] S256x512.size hh) hs = tB (Ring.bk 8 (2 * 0)) := tB_congr (by decide) _ _
@[sl_canon] theorem xBo (k : Fin k0_t1_loop.trips) (hh hs) :
    xM.slice (Rect.unit (s := S2048x512) (k0_off1 k) S256x512.size hh) hs = xB (Ring.bk 8 (2 * k.val + 1)) := xB_congr (off1_eq k) _ _
@[sl_canon] theorem tBo (k : Fin k0_t1_loop.trips) (hh hs) :
    tM.slice (Rect.unit (s := S2048x512) (k0_off1 k) S256x512.size hh) hs = tB (Ring.bk 8 (2 * k.val + 1)) := tB_congr (off1_eq k) _ _
@[sl_canon] theorem xBe (k : Fin k0_t1_loop.trips) (hk : k.val < 3) (hh hs) :
    xM.slice (Rect.unit (s := S2048x512) (k0_off3 k) S256x512.size hh) hs = xB (Ring.bk 8 (2 * (k.val + 1))) := xB_congr (off3_eq k hk) _ _
@[sl_canon] theorem tBe (k : Fin k0_t1_loop.trips) (hk : k.val < 3) (hh hs) :
    tM.slice (Rect.unit (s := S2048x512) (k0_off3 k) S256x512.size hh) hs = tB (Ring.bk 8 (2 * (k.val + 1))) := tB_congr (off3_eq k hk) _ _

/-! ## The resources of the pieces -/

section Pieces
variable (c : Dev nD) (XA : Buf (Elt F) (xM.view.loc (c : Thread nD τ))) (TA : Buf (Elt F) (tM.view.loc (c : Thread nD τ)))

abbrev xCell (s : Fin 2) : sProp 𝕄 := semVal ((c : Thread nD τ), SemLoc.dma (xC s).sem) 0
abbrev tCell (s : Fin 2) : sProp 𝕄 := semVal ((c : Thread nD τ), SemLoc.dma (tC s).sem) 0
abbrev xSlot (s : Fin 2) (f : Buf (Elt F) ((xS s).view.loc (c : Thread nD τ))) : sProp 𝕄 :=
  (xS s).view.loc (c : Thread nD τ) ↦[(xS s).view.set]{fullShare} f
abbrev tSlot (s : Fin 2) (f : Buf (Elt F) ((tS s).view.loc (c : Thread nD τ))) : sProp 𝕄 :=
  (tS s).view.loc (c : Thread nD τ) ↦[(tS s).view.set]{fullShare} f
/-- A block of the first array, at its contents. -/
abbrev xHome (b : Fin 8) : sProp 𝕄 := (xB b).view.loc (c : Thread nD τ) ↦[(xB b).view.set]{fullShare} XA
/-- A block of the second array, at its contents. -/
abbrev tHome (b : Fin 8) : sProp 𝕄 := (tB b).view.loc (c : Thread nD τ) ↦[(tB b).view.set]{fullShare} TA
/-- A block's words. -/
abbrev xPay (b : Fin 8) : S256x512.Idx → Elt F .f32 := ReadAs.same.apply ((xB b).view.read (Elt F) XA)
abbrev tPay (b : Fin 8) : S256x512.Idx → Elt F .f32 := ReadAs.same.apply ((tB b).view.read (Elt F) TA)
/-- What a block's transfer leaves in a slot. -/
abbrev xLanded (s : Fin 2) (b : Fin 8) (f : Buf (Elt F) ((xS s).view.loc (c : Thread nD τ))) : Buf (Elt F) ((xS s).view.loc (c : Thread nD τ)) :=
  (xS s).view.writes (Elt F) f [⟨Rect.whole S256x512, xPay c XA b⟩]
abbrev tLanded (s : Fin 2) (b : Fin 8) (f : Buf (Elt F) ((tS s).view.loc (c : Thread nD τ))) : Buf (Elt F) ((tS s).view.loc (c : Thread nD τ)) :=
  (tS s).view.writes (Elt F) f [⟨Rect.whole S256x512, tPay c TA b⟩]
/-- A block on its way into a slot. -/
abbrev xFlight (s : Fin 2) (b : Fin 8) (f : Buf (Elt F) ((xS s).view.loc (c : Thread nD τ))) : sProp 𝕄 :=
  Transfers.Flight countersEmb (c : Thread nD τ) (SemLoc.dma (xC s).sem) () 16384 iprop(xSlot c s (xLanded c XA s b f) ∗ xHome c XA b)
abbrev tFlight (s : Fin 2) (b : Fin 8) (f : Buf (Elt F) ((tS s).view.loc (c : Thread nD τ))) : sProp 𝕄 :=
  Transfers.Flight countersEmb (c : Thread nD τ) (SemLoc.dma (tC s).sem) () 16384 iprop(tSlot c s (tLanded c TA s b f) ∗ tHome c TA b)

/-- A transfer issued into a slot that already holds a delivered block. -/
theorem xFlight_after (s : Fin 2) (b b' : Fin 8) :
    xFlight c XA s b' ((xS s).view.writes (Elt F) (xS s).view.junk [⟨Rect.whole S256x512, xPay c XA b⟩])
      = Transfers.Flight countersEmb (c : Thread nD τ) (SemLoc.dma (xC s).sem) () 16384
          iprop(((xS s).view.loc (c : Thread nD τ) ↦[(xS s).view.set]{fullShare}
                  (xS s).view.writes (Elt F) (xS s).view.junk [⟨Rect.whole S256x512, xPay c XA b'⟩, ⟨Rect.whole S256x512, xPay c XA b⟩])
                ∗ xHome c XA b') := by
  simp only [xFlight, xLanded, xSlot, View.writes]
theorem tFlight_after (s : Fin 2) (b b' : Fin 8) :
    tFlight c TA s b' ((tS s).view.writes (Elt F) (tS s).view.junk [⟨Rect.whole S256x512, tPay c TA b⟩])
      = Transfers.Flight countersEmb (c : Thread nD τ) (SemLoc.dma (tC s).sem) () 16384
          iprop(((tS s).view.loc (c : Thread nD τ) ↦[(tS s).view.set]{fullShare}
                  (tS s).view.writes (Elt F) (tS s).view.junk [⟨Rect.whole S256x512, tPay c TA b'⟩, ⟨Rect.whole S256x512, tPay c TA b⟩])
                ∗ tHome c TA b') := by
  simp only [tFlight, tLanded, tSlot, View.writes]

/-! ### The blocks at rest around a trip -/

/-- The blocks at rest before trip `k`: all but block `2k`. -/
abbrev rest1 (k : ℕ) : Finset (Fin 8) := Finset.univ.erase (Ring.bk 8 (2 * k))
abbrev rest2 (k : ℕ) : Finset (Fin 8) := (rest1 k).erase (Ring.bk 8 (2 * k + 1))
abbrev rest3 (k : ℕ) : Finset (Fin 8) := (rest2 k).erase (Ring.bk 8 (2 * (k + 1)))

theorem rest_here : ∀ k : Fin 4, rest1 k.val = insert (Ring.bk 8 (2 * k.val + 1)) (rest2 k.val) ∧ Ring.bk 8 (2 * k.val + 1) ∉ rest2 k.val := by decide
theorem rest_more : ∀ k : Fin 3, rest2 k.val = insert (Ring.bk 8 (2 * (k.val + 1))) (rest3 k.val) ∧ Ring.bk 8 (2 * (k.val + 1)) ∉ rest3 k.val := by decide
theorem rest_next : ∀ k : Fin 3, rest1 (k.val + 1) = insert (Ring.bk 8 (2 * k.val)) (insert (Ring.bk 8 (2 * k.val + 1)) (rest3 k.val))
    ∧ Ring.bk 8 (2 * k.val) ∉ insert (Ring.bk 8 (2 * k.val + 1)) (rest3 k.val) ∧ Ring.bk 8 (2 * k.val + 1) ∉ rest3 k.val := by decide
theorem rest_all : (Finset.univ : Finset (Fin 8)) = insert (Ring.bk 8 (2 * 3)) (insert (Ring.bk 8 (2 * 3 + 1)) (rest2 3))
    ∧ Ring.bk 8 (2 * 3) ∉ insert (Ring.bk 8 (2 * 3 + 1)) (rest2 3) ∧ Ring.bk 8 (2 * 3 + 1) ∉ rest2 3 := by decide

theorem homes_here (P : Fin 8 → sProp (MT nD τ sig Unit (Elt F) ℕ (UU nD τ) ℕ)) (k : ℕ) (hk : k < 3) :
    bigSep (rest1 k) P = iprop(P (Ring.bk 8 (2 * k + 1)) ∗ P (Ring.bk 8 (2 * (k + 1))) ∗ bigSep (rest3 k) P) := by
  have h1 := rest_here ⟨k, by omega⟩; have h2 := rest_more ⟨k, hk⟩
  dsimp only at h1 h2
  rw [h1.1, bigSep_insert h1.2, h2.1, bigSep_insert h2.2]; rfl
theorem homes_next (P : Fin 8 → sProp (MT nD τ sig Unit (Elt F) ℕ (UU nD τ) ℕ)) (k : ℕ) (hk : k < 3) :
    bigSep (rest1 (k + 1)) P = iprop(P (Ring.bk 8 (2 * k)) ∗ P (Ring.bk 8 (2 * k + 1)) ∗ bigSep (rest3 k) P) := by
  have h1 := rest_next ⟨k, hk⟩
  dsimp only at h1
  rw [h1.1, bigSep_insert h1.2.1, bigSep_insert h1.2.2]; rfl
theorem homes_last (P : Fin 8 → sProp (MT nD τ sig Unit (Elt F) ℕ (UU nD τ) ℕ)) : bigSep (rest1 3) P = iprop(P (Ring.bk 8 (2 * 3 + 1)) ∗ bigSep (rest2 3) P) := by
  have h1 := rest_here 3
  rw [show ((3 : Fin 4).val) = 3 from rfl] at h1
  rw [h1.1, bigSep_insert h1.2]; rfl
theorem homes_all (P : Fin 8 → sProp (MT nD τ sig Unit (Elt F) ℕ (UU nD τ) ℕ)) : bigSep Finset.univ P = iprop(P (Ring.bk 8 (2 * 3)) ∗ P (Ring.bk 8 (2 * 3 + 1)) ∗ bigSep (rest2 3) P) := by
  have h1 := rest_all
  rw [h1.1, bigSep_insert h1.2.1, bigSep_insert h1.2.2]; rfl
theorem homes_last' (P : Fin 8 → sProp (MT nD τ sig Unit (Elt F) ℕ (UU nD τ) ℕ)) (k : ℕ) (hk : k = 3) :
    bigSep (rest1 k) P = iprop(P (Ring.bk 8 (2 * k + 1)) ∗ bigSep (rest2 k) P) := by subst hk; exact homes_last P
theorem homes_all' (P : Fin 8 → sProp (MT nD τ sig Unit (Elt F) ℕ (UU nD τ) ℕ)) (k : ℕ) (hk : k = 3) :
    bigSep Finset.univ P = iprop(P (Ring.bk 8 (2 * k)) ∗ P (Ring.bk 8 (2 * k + 1)) ∗ bigSep (rest2 k) P) := by subst hk; exact homes_all P
theorem homes_first (P : Fin 8 → sProp (MT nD τ sig Unit (Elt F) ℕ (UU nD τ) ℕ)) : bigSep Finset.univ P = iprop(P (Ring.bk 8 (2 * 0)) ∗ bigSep (rest1 0) P) := by
  have h1 : (Finset.univ : Finset (Fin 8)) = insert (Ring.bk 8 (2 * 0)) (rest1 0) ∧ Ring.bk 8 (2 * 0) ∉ rest1 0 := by decide
  rw [h1.1, bigSep_insert h1.2]; rfl

end Pieces

end Cert.Proof.RunI

end
-- ==== Proof.IdealTrip.lean ====
/-
  One trip of the kernel's loop: the block on its way is taken, the next two are sent for, both blocks are used and
  the carried number moves on. The trip's number is stated by what the run finds.
-/
module

public import proofs.«01_k».proof.Proof.IdealNames

@[expose] public section

noncomputable section

namespace Cert.Proof.RunI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

section Trip

variable (c : Dev nD) (XA : Buf (Elt F) (xM.view.loc (c : Thread nD τ))) (TA : Buf (Elt F) (tM.view.loc (c : Thread nD τ)))
  (arg0 : Memref sig .tc .smem S4 .f32) (harg0 : arg0.IsWhole) (arg1 : Memref sig .tc .smem S4 .f32) (harg1 : arg1.IsWhole)
  (arg2 : Memref sig .tc .vmem S4x512 .f32) (harg2 : arg2.IsWhole) (arg3 : Memref sig .tc .vmem S4x512 .f32) (harg3 : arg3.IsWhole)
  (arg4 : Memref sig .tc .vmem S4x1 .f32) (harg4 : arg4.IsWhole) (arg7 : Memref sig .tc .vmem S1x1 .f32) (harg7 : arg7.IsWhole)
  (g0 : Buf (Elt F) (arg0.view.loc (c : Thread nD τ))) (g1 : Buf (Elt F) (arg1.view.loc (c : Thread nD τ)))

abbrev p0 : sProp 𝕄 := arg0.view.loc (c : Thread nD τ) ↦[arg0.view.set]{fullShare} g0
abbrev p1 : sProp 𝕄 := arg1.view.loc (c : Thread nD τ) ↦[arg1.view.set]{fullShare} g1
abbrev sxP (f : Buf (Elt F) (sxM.view.loc (c : Thread nD τ))) : sProp 𝕄 := sxM.view.loc (c : Thread nD τ) ↦[sxM.view.set]{fullShare} f
abbrev stP (f : Buf (Elt F) (stM.view.loc (c : Thread nD τ))) : sProp 𝕄 := stM.view.loc (c : Thread nD τ) ↦[stM.view.set]{fullShare} f

/-- What stays the same from trip to trip: the two lists of weights, the scratch at anything, the second slots idle. -/
def still : sProp 𝕄 :=
  iprop(p0 c arg0 g0 ∗ p1 c arg1 g1 ∗ (∃ W, owes (c : Thread nD τ) 0 W) ∗ (∃ f, sxP c f) ∗ (∃ f, stP c f)
    ∗ (∃ f, xSlot c 1 f) ∗ (∃ f, tSlot c 1 f) ∗ xCell c 1 ∗ tCell c 1)
/-- Before trip `k`: block `2k` of each array on its way, the others at rest. -/
def going (k : ℕ) : sProp 𝕄 :=
  iprop(bigSep (rest1 k) (xHome c XA) ∗ bigSep (rest1 k) (tHome c TA)
    ∗ (∃ f, xFlight c XA 0 (Ring.bk 8 (2 * k)) f) ∗ (∃ f, tFlight c TA 0 (Ring.bk 8 (2 * k)) f))
/-- After the last trip: everything at rest. -/
def done : sProp 𝕄 :=
  iprop(bigSep Finset.univ (xHome c XA) ∗ bigSep Finset.univ (tHome c TA)
    ∗ (∃ f, xSlot c 0 f) ∗ (∃ f, tSlot c 0 f) ∗ xCell c 0 ∗ tCell c 0)

abbrev tripG (k : Fin k0_t1_loop.trips) (acc : F .f32) : Prog (TpuEff nD τ sig (Elt F) Λ₀ .tc) (F .f32) :=
  k0_t1_body (F := F) arg0 harg0 arg1 harg1 arg2 harg2 arg3 harg3 arg4 harg4 xM (Memref.isWhole_whole _) tM (Memref.isWhole_whole _) arg7 harg7
    bxM (Memref.isWhole_whole _) btM (Memref.isWhole_whole _) sxM (Memref.isWhole_whole _) stM (Memref.isWhole_whole _) cc0_scratch4 cc0_scratch5 k acc

set_option backward.proofsInPublic true in
def tripRun (k : Fin k0_t1_loop.trips) (hk : k.val < 3) (acc : F .f32) :
    { w : F .f32 //
      iprop(still c arg0 arg1 g0 g1 ∗ going c XA TA k.val) ⊢ wp frame (wpE (defs₀ (F := F)) 𝒱₀ (c : Thread nD τ) none) Set.univ
        (tripG arg0 harg0 arg1 harg1 arg2 harg2 arg3 harg3 arg4 harg4 arg7 harg7 k acc)
        (fun r => iprop(⌜r = w⌝ ∗ still c arg0 arg1 g0 g1 ∗ going c XA TA (k.val + 1))) } := by
  refine ⟨?_, ?run⟩
  case run =>
    have hc : k0_cond1 k = 1#1 := cond1_lt k hk
    unfold still going
    rw [homes_here (xHome c XA) k.val hk, homes_here (tHome c TA) k.val hk, homes_next (xHome c XA) k.val hk, homes_next (tHome c TA) k.val hk]
    iintro ⟨⟨H0, H1, ⟨%W, HW⟩, ⟨%fx, Hsx⟩, ⟨%ft, Hst⟩, ⟨%fx1, Hx1⟩, ⟨%ft1, Ht1⟩, Hcx1, Hct1⟩, ⟨Hxa, Hxb, Hxr⟩, ⟨Hta, Htb, Htr⟩, ⟨%f0, HFx⟩, ⟨%f1, HFt⟩⟩
    dsimp only [tripG]
    sl_unfold [k0_t1_body]
    sl_exec
    sl_step
    isplitr; · ipureintro; rfl
    isplitl [H0 H1 HW Hsx Hst Hx1 Ht1 Hcx1 Hct1]
    · isplitl [H0]; · iexact H0
      isplitl [H1]; · iexact H1
      isplitl [HW]; · iexists _; iexact HW
      isplitl [Hsx]; · iexists _; iexact Hsx
      isplitl [Hst]; · iexists _; iexact Hst
      isplitl [Hx1]; · iexists _; iexact Hx1
      isplitl [Ht1]; · iexists _; iexact Ht1
      isplitl [Hcx1]; · iexact Hcx1
      iexact Hct1
    isplitl [HFx_src Hxa Hxr]
    · isplitl [HFx_src]; · iexact HFx_src
      isplitl [Hxa]; · iexact Hxa
      iexact Hxr
    isplitl [HFt_src Hta Htr]
    · isplitl [HFt_src]; · iexact HFt_src
      isplitl [Hta]; · iexact Hta
      iexact Htr
    isplitl [HFx]
    · iexists ((xS 0).view.writes (Elt F) (xS 0).view.junk [⟨Rect.whole S256x512, xPay c XA (Ring.bk 8 (2 * k.val))⟩])
      irw [xFlight_after]
      iexact HFx
    iexists ((tS 0).view.writes (Elt F) (tS 0).view.junk [⟨Rect.whole S256x512, tPay c TA (Ring.bk 8 (2 * k.val))⟩])
    irw [tFlight_after]
    iexact HFt

set_option backward.proofsInPublic true in
def tripLast (k : Fin k0_t1_loop.trips) (hk : k.val = 3) (acc : F .f32) :
    { w : F .f32 //
      iprop(still c arg0 arg1 g0 g1 ∗ going c XA TA k.val) ⊢ wp frame (wpE (defs₀ (F := F)) 𝒱₀ (c : Thread nD τ) none) Set.univ
        (tripG arg0 harg0 arg1 harg1 arg2 harg2 arg3 harg3 arg4 harg4 arg7 harg7 k acc)
        (fun r => iprop(⌜r = w⌝ ∗ still c arg0 arg1 g0 g1 ∗ done c XA TA)) } := by
  refine ⟨?_, ?run⟩
  case run =>
    have hc : ¬ k0_cond1 k = 1#1 := cond1_ge k hk
    unfold still going done
    rw [homes_last' (xHome c XA) k.val hk, homes_last' (tHome c TA) k.val hk, homes_all' (xHome c XA) k.val hk, homes_all' (tHome c TA) k.val hk]
    iintro ⟨⟨H0, H1, ⟨%W, HW⟩, ⟨%fx, Hsx⟩, ⟨%ft, Hst⟩, ⟨%fx1, Hx1⟩, ⟨%ft1, Ht1⟩, Hcx1, Hct1⟩, ⟨Hxa, Hxr⟩, ⟨Hta, Htr⟩, ⟨%f0, HFx⟩, ⟨%f1, HFt⟩⟩
    dsimp only [tripG]
    sl_unfold [k0_t1_body]
    sl_exec
    sl_step
    isplitr; · ipureintro; rfl
    isplitl [H0 H1 HW Hsx Hst Hx1 Ht1 Hcx1 Hct1]
    · isplitl [H0]; · iexact H0
      isplitl [H1]; · iexact H1
      isplitl [HW]; · iexists _; iexact HW
      isplitl [Hsx]; · iexists _; iexact Hsx
      isplitl [Hst]; · iexists _; iexact Hst
      isplitl [Hx1]; · iexists _; iexact Hx1
      isplitl [Ht1]; · iexists _; iexact Ht1
      isplitl [Hcx1]; · iexact Hcx1
      iexact Hct1
    isplitl [HFx_src Hxa Hxr]
    · isplitl [HFx_src]; · iexact HFx_src
      isplitl [Hxa]; · iexact Hxa
      iexact Hxr
    isplitl [HFt_src Hta Htr]
    · isplitl [HFt_src]; · iexact HFt_src
      isplitl [Hta]; · iexact Hta
      iexact Htr
    isplitl [HFx_dst]; · iexists _; iexact HFx_dst
    isplitl [HFt_dst]; · iexists _; iexact HFt_dst
    isplitl [HFx]; · iexact HFx
    iexact HFt

/-- The carried number after trip `k` from the number before it. -/
def tripW (k : Fin k0_t1_loop.trips) (acc : F .f32) : F .f32 :=
  if hk : k.val < 3 then (tripRun c XA TA arg0 harg0 arg1 harg1 arg2 harg2 arg3 harg3 arg4 harg4 arg7 harg7 g0 g1 k hk acc).1
  else if hk : k.val = 3 then (tripLast c XA TA arg0 harg0 arg1 harg1 arg2 harg2 arg3 harg3 arg4 harg4 arg7 harg7 g0 g1 k hk acc).1
  else acc
/-- The carried number before trip `k`. -/
def accN (a0 : F .f32) : ℕ → F .f32
  | 0 => a0
  | k + 1 => if h : k < k0_t1_loop.trips then tripW c XA TA arg0 harg0 arg1 harg1 arg2 harg2 arg3 harg3 arg4 harg4 arg7 harg7 g0 g1 ⟨k, h⟩ (accN a0 k) else accN a0 k

/-- What changes from trip to trip. -/
def moving (k : ℕ) : sProp 𝕄 := if k < 4 then going c XA TA k else done c XA TA

set_option warn.classDefReducibility false in
/-- The loop's invariant. -/
@[sl_loop] def loopInv1 (a0 : F .f32) :
    LoopInvTy_k0_t1 (F := F) Unit ℕ (UU nD τ) ℕ 𝒱₀ c none Set.univ arg0 harg0 arg1 harg1 arg2 harg2 arg3 harg3 arg4 harg4 xM (Memref.isWhole_whole _) tM (Memref.isWhole_whole _) arg7 harg7
      bxM (Memref.isWhole_whole _) btM (Memref.isWhole_whole _) sxM (Memref.isWhole_whole _) stM (Memref.isWhole_whole _) cc0_scratch4 cc0_scratch5 a0 where
  inv k acc := iprop(⌜acc = accN c XA TA arg0 harg0 arg1 harg1 arg2 harg2 arg3 harg3 arg4 harg4 arg7 harg7 g0 g1 a0 k⌝ ∗ still c arg0 arg1 g0 g1 ∗ moving c XA TA k)
  step k acc := by
    have e : accN c XA TA arg0 harg0 arg1 harg1 arg2 harg2 arg3 harg3 arg4 harg4 arg7 harg7 g0 g1 a0 (k.val + 1)
        = tripW c XA TA arg0 harg0 arg1 harg1 arg2 harg2 arg3 harg3 arg4 harg4 arg7 harg7 g0 g1 k (accN c XA TA arg0 harg0 arg1 harg1 arg2 harg2 arg3 harg3 arg4 harg4 arg7 harg7 g0 g1 a0 k.val) := by
      rw [accN, dif_pos k.isLt]
    have h4 : k.val < 4 := lt_of_lt_of_eq k.isLt trips_eq
    rw [e]
    by_cases hk : k.val < 3
    · rw [moving, moving, if_pos h4, if_pos (show k.val + 1 < 4 by omega), tripW, dif_pos hk]
      iintro ⟨%ha, Hs, Hm⟩
      subst ha
      iapply (wp_wand_r Idealize.ShloMosaic.frame (wpE (defs₀ (F := F)) 𝒱₀ (c : Thread nD τ) none) Set.univ)
      isplitl [Hs Hm]
      · iapply (tripRun c XA TA arg0 harg0 arg1 harg1 arg2 harg2 arg3 harg3 arg4 harg4 arg7 harg7 g0 g1 k hk _).2
        isplitl [Hs]; · iexact Hs
        iexact Hm
      · iintro %r H
        iexact H
    · have hk3 : k.val = 3 := by omega
      rw [moving, moving, if_pos h4, if_neg (show ¬ k.val + 1 < 4 by omega), tripW, dif_neg hk, dif_pos hk3]
      iintro ⟨%ha, Hs, Hm⟩
      subst ha
      iapply (wp_wand_r Idealize.ShloMosaic.frame (wpE (defs₀ (F := F)) 𝒱₀ (c : Thread nD τ) none) Set.univ)
      isplitl [Hs Hm]
      · iapply (tripLast c XA TA arg0 harg0 arg1 harg1 arg2 harg2 arg3 harg3 arg4 harg4 arg7 harg7 g0 g1 k hk3 _).2
        isplitl [Hs]; · iexact Hs
        iexact Hm
      · iintro %r H
        iexact H

theorem moving_end : moving c XA TA k0_t1_loop.trips = done c XA TA := by rw [trips_eq]; exact if_neg (by omega)

set_option warn.classDefReducibility false in
/-- After the loop everything is at rest. -/
instance loopExit1 (a0 : F .f32) :
    LoopExit (loopInv1 c XA TA arg0 harg0 arg1 harg1 arg2 harg2 arg3 harg3 arg4 harg4 arg7 harg7 g0 g1 a0) where
  post acc := iprop(⌜acc = accN c XA TA arg0 harg0 arg1 harg1 arg2 harg2 arg3 harg3 arg4 harg4 arg7 harg7 g0 g1 a0 k0_t1_loop.trips⌝ ∗ still c arg0 arg1 g0 g1 ∗ done c XA TA)
  exit acc := by
    rw [← moving_end]; exact .rfl

end Trip

end Cert.Proof.RunI

end
-- ==== Proof.IdealBody.lean ====
/-
  The kernel's body: the first blocks are sent for, the loop runs, the column statistics are added and the one
  number is stored.
-/
module

public import proofs.«01_k».proof.Proof.IdealTrip

@[expose] public section

noncomputable section

namespace Cert.Proof.RunI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

section Body

variable (c : Dev nD) (XA : Buf (Elt F) (xM.view.loc (c : Thread nD τ))) (TA : Buf (Elt F) (tM.view.loc (c : Thread nD τ)))
  (arg0 : Memref sig .tc .smem S4 .f32) (harg0 : arg0.IsWhole) (arg1 : Memref sig .tc .smem S4 .f32) (harg1 : arg1.IsWhole)
  (arg2 : Memref sig .tc .vmem S4x512 .f32) (harg2 : arg2.IsWhole) (arg3 : Memref sig .tc .vmem S4x512 .f32) (harg3 : arg3.IsWhole)
  (arg4 : Memref sig .tc .vmem S4x1 .f32) (harg4 : arg4.IsWhole) (arg7 : Memref sig .tc .vmem S1x1 .f32) (harg7 : arg7.IsWhole)
  (g0 : Buf (Elt F) (arg0.view.loc (c : Thread nD τ))) (g1 : Buf (Elt F) (arg1.view.loc (c : Thread nD τ)))
  (g2 : Buf (Elt F) (arg2.view.loc (c : Thread nD τ))) (g3 : Buf (Elt F) (arg3.view.loc (c : Thread nD τ)))
  (g4 : Buf (Elt F) (arg4.view.loc (c : Thread nD τ))) (gO : Buf (Elt F) (arg7.view.loc (c : Thread nD τ)))

/-- The body on the given staged pieces. -/
abbrev bodyG : Prog (TpuEff nD τ sig (Elt F) Λ₀ .tc) PUnit :=
  cc0_customloss_kll (F := F) arg0 harg0 arg1 harg1 arg2 harg2 arg3 harg3 arg4 harg4 xM (Memref.isWhole_whole _) tM (Memref.isWhole_whole _) arg7 harg7
    bxM (Memref.isWhole_whole _) btM (Memref.isWhole_whole _) sxM (Memref.isWhole_whole _) stM (Memref.isWhole_whole _) cc0_scratch4 cc0_scratch5

abbrev p2 : sProp 𝕄 := arg2.view.loc (c : Thread nD τ) ↦[arg2.view.set]{fullShare} g2
abbrev p3 : sProp 𝕄 := arg3.view.loc (c : Thread nD τ) ↦[arg3.view.set]{fullShare} g3
abbrev p4 : sProp 𝕄 := arg4.view.loc (c : Thread nD τ) ↦[arg4.view.set]{fullShare} g4
abbrev p7 : sProp 𝕄 := arg7.view.loc (c : Thread nD τ) ↦[arg7.view.set]{fullShare} gO

/-- What the body has for itself, before and after: its scratch, its slots and counters, its arrays. -/
abbrev own : sProp 𝕄 :=
  iprop((∃ f, sxP c f) ∗ (∃ f, stP c f) ∗ (∃ f, xSlot c 0 f) ∗ (∃ f, xSlot c 1 f) ∗ (∃ f, tSlot c 0 f) ∗ (∃ f, tSlot c 1 f)
    ∗ xCell c 0 ∗ xCell c 1 ∗ tCell c 0 ∗ tCell c 1 ∗ bigSep Finset.univ (xHome c XA) ∗ bigSep Finset.univ (tHome c TA))

abbrev R11 : Rect S1x1 := Rect.unit (s := S1x1) ![0, 0] S1x1.size inb_S1x1_S1x1_0_0

set_option backward.proofsInPublic true in
/-- The body's run, with the number it stores. -/
def bodyRun : { w : (R11).shape.Idx → Elt F .f32 // ∀ (gO : Buf (Elt F) (arg7.view.loc (c : Thread nD τ))) (W : Waits sig Unit) (Q : PUnit → sProp 𝕄),
    iprop((p0 c arg0 g0 ∗ p1 c arg1 g1 ∗ p2 c arg2 g2 ∗ p3 c arg3 g3 ∗ p4 c arg4 g4 ∗ p7 c arg7 gO ∗ own c XA TA ∗ owes (c : Thread nD τ) 0 W)
      ∗ ((p0 c arg0 g0 ∗ p1 c arg1 g1 ∗ p2 c arg2 g2 ∗ p3 c arg3 g3 ∗ p4 c arg4 g4 ∗ p7 c arg7 (arg7.view.writes (Elt F) gO [⟨R11, w⟩]) ∗ own c XA TA ∗ ∃ W, owes (c : Thread nD τ) 0 W) -∗ Q ⟨⟩))
      ⊢ wp frame (wpE (defs₀ (F := F)) 𝒱₀ (c : Thread nD τ) none) Set.univ (bodyG arg0 harg0 arg1 harg1 arg2 harg2 arg3 harg3 arg4 harg4 arg7 harg7) Q } := by
  refine ⟨?_, ?run⟩
  case run =>
    intro gO W Q
    iintro ⟨⟨H0, H1, H2, H3, H4, H7, ⟨⟨%fx, Hsx⟩, ⟨%ft, Hst⟩, ⟨%fx0, Hx0⟩, ⟨%fx1, Hx1⟩, ⟨%ft0, Ht0⟩, ⟨%ft1, Ht1⟩, Hcx0, Hcx1, Hct0, Hct1, HxA, HtA⟩, HW⟩, Hk⟩
    ihave HxB := (entails_of_eq (homes_first (xHome c XA))) $$ HxA
    ihave HtB := (entails_of_eq (homes_first (tHome c TA))) $$ HtA
    icases HxB with ⟨Hxa, Hxr⟩
    icases HtB with ⟨Hta, Htr⟩
    dsimp only [bodyG]
    sl_exec
    sl_step
    iapply Hk
    isplitl [HL1]; · iexact HL1
    isplitl [HL2]; · iexact HL2
    isplitl [H2]; · iexact H2
    isplitl [H3]; · iexact H3
    isplitl [H4]; · iexact H4
    isplitl [H7]; · iexact H7
    isplitr [HL3]
    · isplitl [HL4]; · iexists _; iexact HL4
      isplitl [HL5]; · iexists _; iexact HL5
      isplitl [HL12]; · iexists _; iexact HL12
      isplitl [HL6]; · iexists _; iexact HL6
      isplitl [HL13]; · iexists _; iexact HL13
      isplitl [HL7]; · iexists _; iexact HL7
      isplitl [HL14]; · iexact HL14
      isplitl [HL8]; · iexact HL8
      isplitl [HL15]; · iexact HL15
      isplitl [HL9]; · iexact HL9
      isplitl [HL10]; · iexact HL10
      iexact HL11
    iexists _; iexact HL3

end Body

end Cert.Proof.RunI

end
-- ==== Proof.IdealLaunch.lean ====
/-
  The kernel's launch: from the whole program's memory to its one call and back. Every run ends, leaves the arguments
  as they were and every counter at zero, and leaves the result array at the number the body stores.
-/
module

public import proofs.«01_k».proof.Proof.IdealBody
public import Idealize.ShloMosaic.Lib.Pipeline.FrameSuffix
public import Idealize.ShloMosaic.Lib.VecWindow

@[expose] public section

set_option maxRecDepth 16384

noncomputable section

namespace Cert.Proof.RunI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The kernel's own counters -/

abbrev osem : Fin 4 → SemLoc sig := fun
  | 0 => .dma (xC 0).sem
  | 1 => .dma (xC 1).sem
  | 2 => .dma (tC 0).sem
  | 3 => .dma (tC 1).sem
theorem ownSemFacts : Pipeline.OwnSemFacts spec0 osem := by decide

omit [FloatOps F] in
theorem bigSep_fin2 (Φ : Fin 2 → sProp (MT nD τ sig Unit (Elt F) ℕ (UU nD τ) ℕ)) : bigSep Finset.univ Φ = iprop(Φ 0 ∗ Φ 1) :=
  bigSep_univ_eq_bigSepL [(0 : Fin 2), (1 : Fin 2)] (by decide) (by decide) Φ
omit [FloatOps F] in
theorem bigSep_fin4 (Φ : Fin 4 → sProp (MT nD τ sig Unit (Elt F) ℕ (UU nD τ) ℕ)) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem ownSems0_eq (c : Dev nD) : (Pipeline.ownSems0 (Ix := Unit) (Name := ℕ) (U := UU nD τ) (Lvl := ℕ) (Val := Elt F) (τ := τ) osem c : sProp 𝕄)
    = iprop(xCell c 0 ∗ xCell c 1 ∗ tCell c 0 ∗ tCell c 1) := by
  unfold Pipeline.ownSems0; rw [bigSep_fin4]

/-! ## The eight blocks of an array and the two slots of a buffer -/

abbrev G8 (b : Fin 8) : Finset S2048x512.Idx := (Rect.unit (s := S2048x512) (blkOff b) S256x512.size (blkOff_inb b)).set
abbrev G2 (s : Fin 2) : Finset S2x256x512.Idx := (Rect.unit (s := S2x256x512) (slotOff s) S1x256x512.size (slotOff_inb s)).set

theorem xB_set (b : Fin 8) : (xB b : Memref sig .tc .hbm _ _).view.set = G8 b := View.set_slice_whole _ _
theorem tB_set (b : Fin 8) : (tB b : Memref sig .tc .hbm _ _).view.set = G8 b := View.set_slice_whole _ _
theorem xS_set (s : Fin 2) : (xS s : Memref sig .tc .vmem _ _).view.set = G2 s := (View.set_reshape _ _).trans (View.set_slice_whole _ _)
theorem tS_set (s : Fin 2) : (tS s : Memref sig .tc .vmem _ _).view.set = G2 s := (View.set_reshape _ _).trans (View.set_slice_whole _ _)

theorem mem_G8 (b : Fin 8) (y : S2048x512.Idx) : y ∈ G8 b ↔ b.val * 256 ≤ (y 0).val ∧ (y 0).val < b.val * 256 + 256 := by
  rw [Rect.mem_set_unit]
  have h1 : (y 1).val < 512 := (y 1).isLt
  constructor
  · intro H; exact H 0
  · intro H i; fin_cases i
    · exact H
    · show 0 ≤ (y 1).val ∧ (y 1).val < 0 + 512; omega
theorem mem_G2 (s : Fin 2) (y : S2x256x512.Idx) : y ∈ G2 s ↔ (y 0).val = s.val := by
  rw [Rect.mem_set_unit]
  have h1 : (y 1).val < 256 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 512; omega
theorem G8_disjoint : ∀ b b' : Fin 8, b ≠ b' → Disjoint (G8 b) (G8 b') := by
  intro b b' hne; rw [Finset.disjoint_left]; intro y hy hy'; rw [mem_G8] at hy hy'; exact hne (Fin.ext (by omega))
theorem G8_cover : (Finset.univ : Finset (Fin 8)).biUnion G8 = Finset.univ := by
  ext y; simp only [Finset.mem_biUnion, Finset.mem_univ, true_and, iff_true]
  have h0 : (y 0).val < 2048 := (y 0).isLt
  exact ⟨⟨(y 0).val / 256, by omega⟩, by rw [mem_G8]; dsimp only; omega⟩
theorem G2_disjoint : ∀ s s' : Fin 2, s ≠ s' → Disjoint (G2 s) (G2 s') := by
  intro s s' hne; rw [Finset.disjoint_left]; intro y hy hy'; rw [mem_G2] at hy hy'; exact hne (Fin.ext (hy.symm.trans hy'))
theorem G2_cover : (Finset.univ : Finset (Fin 2)).biUnion G2 = Finset.univ := by
  ext y; simp only [Finset.mem_biUnion, Finset.mem_univ, true_and, iff_true]; exact ⟨(y 0).cast (by decide), by rw [mem_G2]; rfl⟩

theorem xA_eq (c : Dev nD) (X : Buf (Elt F) ((c : Thread nD τ).loc main_v25)) :
    (((c : Thread nD τ).loc main_v25) ↦{fullShare} X : sProp 𝕄) = bigSep Finset.univ (xHome c X) := by
  rw [Ring.pointsTo_blocks (ℓ := (c : Thread nD τ).loc main_v25) G8 G8_disjoint G8_cover]
  exact bigSep_congr fun b _ => by rw [← xB_set]; rfl
theorem tA_eq (c : Dev nD) (X : Buf (Elt F) ((c : Thread nD τ).loc main_v26)) :
    (((c : Thread nD τ).loc main_v26) ↦{fullShare} X : sProp 𝕄) = bigSep Finset.univ (tHome c X) := by
  rw [Ring.pointsTo_blocks (ℓ := (c : Thread nD τ).loc main_v26) G8 G8_disjoint G8_cover]
  exact bigSep_congr fun b _ => by rw [← tB_set]; rfl

omit [FloatOps F] in
theorem xSlot_eq (c : Dev nD) (s : Fin 2) (f) : xSlot c s f = (((c : Thread nD τ).loc cc0_scratch0) ↦[G2 s]{fullShare} f : sProp 𝕄) :=
  congrArg (fun S => (_ ↦[S]{fullShare} f : sProp 𝕄)) (xS_set s)
omit [FloatOps F] in
theorem tSlot_eq (c : Dev nD) (s : Fin 2) (f) : tSlot c s f = (((c : Thread nD τ).loc cc0_scratch1) ↦[G2 s]{fullShare} f : sProp 𝕄) :=
  congrArg (fun S => (_ ↦[S]{fullShare} f : sProp 𝕄)) (tS_set s)

omit [FloatOps F] in
theorem sx_eq (c : Dev nD) (f : Buf (Elt F) ((c : Thread nD τ).loc cc0_scratch2)) : (((c : Thread nD τ).loc cc0_scratch2) ↦{fullShare} f : sProp 𝕄) = sxP c f := by
  unfold sxP; rw [View.set_whole]
omit [FloatOps F] in
theorem st_eq (c : Dev nD) (f : Buf (Elt F) ((c : Thread nD τ).loc cc0_scratch3)) : (((c : Thread nD τ).loc cc0_scratch3) ↦{fullShare} f : sProp 𝕄) = stP c f := by
  unfold stP; rw [View.set_whole]

theorem xbuf_split (c : Dev nD) :
    iprop(∃ f : Buf (Elt F) ((c : Thread nD τ).loc cc0_scratch0), ((c : Thread nD τ).loc cc0_scratch0) ↦{fullShare} f)
      ⊢ (iprop((∃ f, xSlot c 0 f) ∗ ∃ f, xSlot c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) G2 G2_disjoint G2_cover f).trans (bigSep_fin2 _))) $$ H
  icases H2 with ⟨H0, H1⟩
  isplitl [H0]
  · iexists f; iapply (entails_of_eq (xSlot_eq c 0 f).symm); iexact H0
  · iexists f; iapply (entails_of_eq (xSlot_eq c 1 f).symm); iexact H1
theorem xbuf_join (c : Dev nD) :
    iprop((∃ f, xSlot c 0 f) ∗ ∃ f, xSlot c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) G2 G2_disjoint G2_cover f0)
  irw [bigSep_fin2]
  isplitl [H0]
  · iexists f0; iapply (entails_of_eq (xSlot_eq c 0 f0)); iexact H0
  · iexists f1; iapply (entails_of_eq (xSlot_eq c 1 f1)); iexact H1

theorem tbuf_split (c : Dev nD) :
    iprop(∃ f : Buf (Elt F) ((c : Thread nD τ).loc cc0_scratch1), ((c : Thread nD τ).loc cc0_scratch1) ↦{fullShare} f)
      ⊢ (iprop((∃ f, tSlot c 0 f) ∗ ∃ f, tSlot c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) G2 G2_disjoint G2_cover f).trans (bigSep_fin2 _))) $$ H
  icases H2 with ⟨H0, H1⟩
  isplitl [H0]
  · iexists f; iapply (entails_of_eq (tSlot_eq c 0 f).symm); iexact H0
  · iexists f; iapply (entails_of_eq (tSlot_eq c 1 f).symm); iexact H1
theorem tbuf_join (c : Dev nD) :
    iprop((∃ f, tSlot c 0 f) ∗ ∃ f, tSlot c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) G2 G2_disjoint G2_cover f0)
  irw [bigSep_fin2]
  isplitl [H0]
  · iexists f0; iapply (entails_of_eq (tSlot_eq c 0 f0)); iexact H0
  · iexists f1; iapply (entails_of_eq (tSlot_eq c 1 f1)); iexact H1

/-! ## The proof data -/

/-- The two large arrays as the call finds them. -/
abbrev XA (c : Dev nD) : Buf (Elt F) (xM.view.loc (c : Thread nD τ)) := V m c main_v25
abbrev TA (c : Dev nD) : Buf (Elt F) (tM.view.loc (c : Thread nD τ)) := V m c main_v26

/-- What holds before and after the one call of the body. -/
def Φ (c : Dev nD) : sProp 𝕄 := iprop(own c (XA m c) (TA m c) ∗ ∃ r, prngReg c r)

abbrev st0 (t : Fin cfg0.N) : Memref sig .tc .smem S4 .f32 := win0_0.stage (cfg0.slots t 0)
abbrev st1 (t : Fin cfg0.N) : Memref sig .tc .smem S4 .f32 := win0_1.stage (cfg0.slots t 1)
abbrev st2 (t : Fin cfg0.N) : Memref sig .tc .vmem S4x512 .f32 := win0_2.stage (cfg0.slots t 2)
abbrev st3 (t : Fin cfg0.N) : Memref sig .tc .vmem S4x512 .f32 := win0_3.stage (cfg0.slots t 3)
abbrev st4 (t : Fin cfg0.N) : Memref sig .tc .vmem S4x1 .f32 := win0_4.stage (cfg0.slots t 4)
abbrev st5 (t : Fin cfg0.N) : Memref sig .tc .vmem S1x1 .f32 := win0_5.stage (cfg0.slots t 5)

/-- The body's number on the staged blocks. -/
def outW (c : Dev nD) (t : Fin cfg0.N) : (R11).shape.Idx → Elt F .f32 :=
  (bodyRun c (XA m c) (TA m c) (st0 t) (hstage0_0 0) (st1 t) (hstage0_1 0) (st2 t) (hstage0_2 0) (st3 t) (hstage0_3 0) (st4 t) (hstage0_4 0) (st5 t) (hstage0_5 0)
    ((st0 t).view.rep (iblk m c 0 t)) ((st1 t).view.rep (iblk m c 1 t)) ((st2 t).view.rep (iblk m c 2 t)) ((st3 t).view.rep (iblk m c 3 t)) ((st4 t).view.rep (iblk m c 4 t))).1

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outW m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem after_w5 (c : Dev nD) (t : Fin cfg0.N) : (dats m 0 c).after 5 t = outW m c t := by dsimp only [dats]

/-! ## The body at its one call -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0) (st5 t) (hstage0_5 0) :=
  (congrFun defs_tc _).trans rfl

/-- The body's run at its call, on the staged blocks. -/
theorem body_at (c : Dev nD) (t : Fin cfg0.N) (gO : Buf (Elt F) ((st5 t).view.loc (c : Thread nD τ))) (W : Waits sig Unit) (Q : PUnit → sProp 𝕄) :
    iprop((p0 c (st0 t) ((st0 t).view.rep (iblk m c 0 t)) ∗ p1 c (st1 t) ((st1 t).view.rep (iblk m c 1 t)) ∗ p2 c (st2 t) ((st2 t).view.rep (iblk m c 2 t))
        ∗ p3 c (st3 t) ((st3 t).view.rep (iblk m c 3 t)) ∗ p4 c (st4 t) ((st4 t).view.rep (iblk m c 4 t)) ∗ p7 c (st5 t) gO ∗ own c (XA m c) (TA m c) ∗ owes (c : Thread nD τ) 0 W)
      ∗ ((p0 c (st0 t) ((st0 t).view.rep (iblk m c 0 t)) ∗ p1 c (st1 t) ((st1 t).view.rep (iblk m c 1 t)) ∗ p2 c (st2 t) ((st2 t).view.rep (iblk m c 2 t))
        ∗ p3 c (st3 t) ((st3 t).view.rep (iblk m c 3 t)) ∗ p4 c (st4 t) ((st4 t).view.rep (iblk m c 4 t))
        ∗ p7 c (st5 t) ((st5 t).view.writes (Elt F) gO [⟨R11, outW m c t⟩]) ∗ own c (XA m c) (TA m c) ∗ ∃ W, owes (c : Thread nD τ) 0 W) -∗ Q ⟨⟩))
      ⊢ wp frame (wpE (defs₀ (F := F)) 𝒱₀ (c : Thread nD τ) none) Set.univ
        (bodyG (st0 t) (hstage0_0 0) (st1 t) (hstage0_1 0) (st2 t) (hstage0_2 0) (st3 t) (hstage0_3 0) (st4 t) (hstage0_4 0) (st5 t) (hstage0_5 0)) Q :=
  (bodyRun c (XA m c) (TA m c) (st0 t) (hstage0_0 0) (st1 t) (hstage0_1 0) (st2 t) (hstage0_2 0) (st3 t) (hstage0_3 0) (st4 t) (hstage0_4 0) (st5 t) (hstage0_5 0)
    ((st0 t).view.rep (iblk m c 0 t)) ((st1 t).view.rep (iblk m c 1 t)) ((st2 t).view.rep (iblk m c 2 t)) ((st3 t).view.rep (iblk m c 3 t)) ((st4 t).view.rep (iblk m c 4 t))).2 gO W Q

set_option maxHeartbeats 2000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, after_w0, after_w1, after_w2, after_w3, after_w4, after_w5]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hown, Hprng⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %gO, -, H5⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  ihave H4' := (pointsTo_rep_entails (c : Thread nD τ) (st4 t) g4 fullShare) $$ H4
  rw [hg0, hg1, hg2, hg3, hg4]
  sl_rw [prog_eq t]
  iapply (body_at m c t gO W)
  isplitr [Hprng]
  · isplitl [H0']; · iexact H0'
    isplitl [H1']; · iexact H1'
    isplitl [H2']; · iexact H2'
    isplitl [H3']; · iexact H3'
    isplitl [H4']; · iexact H4'
    isplitl [H5]; · iexact H5
    isplitl [Hown]; · iexact Hown
    iexact HW
  · iintro ⟨H0, H1, H2, H3, H4, H5, Hown, ⟨%W', HW⟩⟩
    isplitl [Hown Hprng]
    · isplitl [Hown]; · iexact Hown
      iexact Hprng
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    iexists _; isplitr; · ipureintro; exact View.read_writes_full (st5 t).view gO inb_S1x1_S1x1_0_0 (outW m c t) []
    iexact H5

/-! ## The run -/

abbrev Hs : Finset (Ref sig .tc) := {main_v25, main_v26}

set_option maxHeartbeats 800000 in
theorem hmainU (𝒱₀ : Variants) : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subH : ∀ ops ∈ ([hostOps1] : List (List (HloOp τ sig (Elt F)))), ∀ op ∈ ops,
    op.bufs ⊆ Pipeline.tailRefsBut sig Pipeline.Prefetch.none spec0 Hs := by
  intro ops hops op hop
  simp only [List.mem_cons, List.mem_nil_iff, or_false] at hops
  rcases hops with rfl
  refine Pipeline.sub_tailRefsBut Pipeline.Prefetch.none spec0 Hs op ((List.forall_iff_forall_mem.mp hostOps1_sub) op hop) (fun k => k.elim0) ?_
  simp only [hostOps1, List.mem_cons, List.mem_nil_iff, or_false] at hop
  rcases hop with rfl
  rw [StableHlo.reshape_bufs]
  decide

theorem bigSep_Hs (P : Ref sig .tc → sProp (MT nD τ sig Unit (Elt F) ℕ (UU nD τ) ℕ)) : bigSep Hs P = iprop(P main_v25 ∗ P main_v26) := by
  have h : main_v25 ∉ ({main_v26} : Finset (Ref sig .tc)) := by decide
  unfold Hs
  rw [bigSep_insert h, bigSep_singleton]; rfl

theorem ΦD_open (c : Dev nD) : Pipeline.ΦD osem spec0 Hs (fun c b => V m c b) c ⊢ Φ m c := by
  rw [Pipeline.ΦD_eq, scopedRest0_eq, ownSems0_eq, bigSep_Hs]
  unfold Φ
  iintro ⟨⟨Hb0, Hb1, Hb2, Hb3⟩, Hp, ⟨Hc0, Hc1, Hc2, Hc3⟩, Hx, Ht⟩
  ihave H0 := (xbuf_split c) $$ Hb0
  icases H0 with ⟨Hx0, Hx1⟩
  ihave H1 := (tbuf_split c) $$ Hb1
  icases H1 with ⟨Ht0, Ht1⟩
  ihave Hx' := (entails_of_eq (xA_eq c (V m c main_v25))) $$ Hx
  ihave Ht' := (entails_of_eq (tA_eq c (V m c main_v26))) $$ Ht
  icases Hb2 with ⟨%f2, Hb2⟩
  icases Hb3 with ⟨%f3, Hb3⟩
  isplitr [Hp]
  · isplitl [Hb2]; · iexists f2; iapply (entails_of_eq (sx_eq c f2)); iexact Hb2
    isplitl [Hb3]; · iexists f3; iapply (entails_of_eq (st_eq c f3)); iexact Hb3
    isplitl [Hx0]; · iexact Hx0
    isplitl [Hx1]; · iexact Hx1
    isplitl [Ht0]; · iexact Ht0
    isplitl [Ht1]; · iexact Ht1
    isplitl [Hc0]; · iexact Hc0
    isplitl [Hc1]; · iexact Hc1
    isplitl [Hc2]; · iexact Hc2
    isplitl [Hc3]; · iexact Hc3
    isplitl [Hx']; · iexact Hx'
    iexact Ht'
  iexact Hp
theorem ΦD_close (c : Dev nD) : Φ m c ⊢ Pipeline.ΦD osem spec0 Hs (fun c b => V m c b) c := by
  rw [Pipeline.ΦD_eq, scopedRest0_eq, ownSems0_eq, bigSep_Hs]
  unfold Φ
  iintro ⟨⟨⟨%f2, Hb2⟩, ⟨%f3, Hb3⟩, Hx0, Hx1, Ht0, Ht1, Hc0, Hc1, Hc2, Hc3, Hx, Ht⟩, Hp⟩
  isplitl [Hb2 Hb3 Hx0 Hx1 Ht0 Ht1]
  · isplitl [Hx0 Hx1]
    · iapply (xbuf_join c)
      isplitl [Hx0]; · iexact Hx0
      iexact Hx1
    isplitl [Ht0 Ht1]
    · iapply (tbuf_join c)
      isplitl [Ht0]; · iexact Ht0
      iexact Ht1
    isplitl [Hb2]; · iexists f2; iapply (entails_of_eq (sx_eq c f2).symm); iexact Hb2
    iexists f3; iapply (entails_of_eq (st_eq c f3).symm); iexact Hb3
  isplitl [Hp]; · iexact Hp
  isplitl [Hc0 Hc1 Hc2 Hc3]
  · isplitl [Hc0]; · iexact Hc0
    isplitl [Hc1]; · iexact Hc1
    isplitl [Hc2]; · iexact Hc2
    iexact Hc3
  isplitl [Hx]
  · iapply (entails_of_eq (xA_eq c (V m c main_v25)).symm); iexact Hx
  iapply (entails_of_eq (tA_eq c (V m c main_v26)).symm); iexact Ht

set_option maxHeartbeats 2000000 in
set_option backward.isDefEq.respectTransparency.types false in
/-- Every run of the program ends, at the contents the proof data state, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts Hs (by decide) m ρ main
    (hbody := fun c => (body_obligation m c).loose) (hshare := fun c => (dats m 0 c).share_full fun _ => rfl)
    (howed := fun _ _ => rfl) (V₀ := V0 m) (opss := [hostOps1]) (hsub := sfx_subH) (hfresh := sfx_fresh) (hkeep := sfx_keeps)
    (hmain := hmainU m 𝒱₀) (hA := fun _ _ => rfl)
    (hin := fun c => ΦD_open m c) (hout := fun c => ΦD_close m c)
    (Q' := fun r => Pipeline.FramePost cfgs (dats m) 0 (Pipeline.afterTail₀ cfgs (dats m) 0 (V0 m) [hostOps1]) r ∧ r.2.sem = fun _ => 0)
    (hQ' := fun _ h => h)

theorem WU_main_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem WU_main_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem WU_main_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem WU_main_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem WU_main_arg4 (c : Dev nD) : Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The five arguments after a run. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (WU_main_arg0 m c),
    ((h c).2 main_arg1 (Pipeline.mem_restRefs_of main_arg1 (by decide) (by decide))).trans (WU_main_arg1 m c),
    ((h c).2 main_arg2 (Pipeline.mem_restRefs_of main_arg2 (by decide) (by decide))).trans (WU_main_arg2 m c),
    ((h c).2 main_arg3 (Pipeline.mem_restRefs_of main_arg3 (by decide) (by decide))).trans (WU_main_arg3 m c),
    ((h c).2 main_arg4 (Pipeline.mem_restRefs_of main_arg4 (by decide) (by decide))).trans (WU_main_arg4 m c)⟩

/-- The frame claim's statement. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m h.1, h.2⟩) (run_main m ρ)

end Cert.Proof.RunI

end
-- ==== Proof.Math.lean ====
/-
  The mathematics over the real numbers: the soft histogram of a line of values in its two spellings, its normal form
  and the divergence of two of them.
-/
module

public import Mathlib.Analysis.SpecialFunctions.Log.Basic
public import Mathlib.Algebra.BigOperators.Fin
public import Mathlib.Algebra.BigOperators.Field
public import Mathlib.Data.EReal.Operations

@[expose] public section

noncomputable section

namespace Cert.Proof.Spec

open Finset

/-- The bin width: the f32 nearest to one hundredth. -/
def bw : ℝ := 5368709 / 536870912
/-- Its exact reciprocal. -/
def ib : ℝ := 536870912 / 5368709
/-- The f32 nearest to 1e-10. -/
def e10 : ℝ := 14411519 / 144115188075855872
/-- The f32 nearest to 1e-6. -/
def e6 : ℝ := 8796093 / 8796093022208
/-- The f32 nearest to 1e-5. -/
def e5 : ℝ := 10995116 / 1099511627776

theorem bw_pos : 0 < bw := by norm_num [bw]
theorem e10_pos : 0 < e10 := by norm_num [e10]
theorem e6_pos : 0 < e6 := by norm_num [e6]
theorem e5_pos : 0 < e5 := by norm_num [e5]

/-- The sum of the ramps of a line that start at point `j`. -/
def psi (f : Fin 512 → ℝ) (j : ℕ) : ℝ := ∑ w, max (f w * ib + 1 / 2 - j) 0

/-- The distance of a value from the centre of bin `k`, in bins. -/
def dist (x : ℝ) (k : ℕ) : ℝ := |x - ((k : ℝ) + 1 / 2) * bw| / bw

/-- The soft histogram of a line. -/
def hist (f : Fin 512 → ℝ) (k : ℕ) : ℝ := ∑ w, if dist (f w) k ≤ 1 then 1 - dist (f w) k else 0

/-- A triangle is the second difference of ramps. -/
theorem tri (d : ℝ) : max (d + 1) 0 - 2 * max d 0 + max (d - 1) 0 = if |d| ≤ 1 then 1 - |d| else 0 := by
  rcases le_total 0 d with h | h
  · rw [abs_of_nonneg h, max_eq_left h, max_eq_left (by linarith : (0 : ℝ) ≤ d + 1)]
    split_ifs with h1
    · rw [max_eq_right (by linarith)]; ring
    · rw [max_eq_left (by linarith)]; ring
  · rw [abs_of_nonpos h, max_eq_right h, max_eq_right (by linarith : d - 1 ≤ 0)]
    split_ifs with h1
    · rw [max_eq_left (by linarith)]; ring
    · rw [max_eq_right (by linarith)]; ring

theorem dist_eq (x : ℝ) (k : ℕ) : dist x k = |x * ib - ((k : ℝ) + 1 / 2)| := by
  have h : (x - ((k : ℝ) + 1 / 2) * bw) / bw = x * ib - ((k : ℝ) + 1 / 2) := by
    unfold bw ib; field_simp
  unfold dist
  rw [← h, abs_div, abs_of_pos bw_pos]

/-- The second difference of the ramp sums is the soft histogram. -/
theorem psi_hist (f : Fin 512 → ℝ) (k : ℕ) :
    psi f k - 2 * psi f (k + 1) + psi f (k + 2) = hist f k := by
  unfold psi hist
  rw [mul_sum, ← sum_sub_distrib, ← sum_add_distrib]
  refine sum_congr rfl fun w _ => ?_
  have h0 : f w * ib + 1 / 2 - (k : ℝ) = f w * ib - ((k : ℝ) + 1 / 2) + 1 := by ring
  have h1 : f w * ib + 1 / 2 - ((k + 1 : ℕ) : ℝ) = f w * ib - ((k : ℝ) + 1 / 2) := by push_cast; ring
  have h2 : f w * ib + 1 / 2 - ((k + 2 : ℕ) : ℝ) = f w * ib - ((k : ℝ) + 1 / 2) - 1 := by push_cast; ring
  rw [dist_eq, ← tri, h0, h1, h2]

theorem hist_nonneg (f : Fin 512 → ℝ) (k : ℕ) : 0 ≤ hist f k := by
  refine sum_nonneg fun w _ => ?_
  split_ifs with h
  · linarith
  · exact le_rfl

/-- The mass of the soft histogram. -/
def mass (f : Fin 512 → ℝ) : ℝ := ∑ k : Fin 100, hist f k
/-- The normalised soft histogram. -/
def pdf (f : Fin 512 → ℝ) (k : ℕ) : ℝ := hist f k / (mass f + e10)

theorem mass_pos (f : Fin 512 → ℝ) : 0 < mass f + e10 :=
  add_pos_of_nonneg_of_pos (sum_nonneg fun _ _ => hist_nonneg _ _) e10_pos
theorem mass_ne (f : Fin 512 → ℝ) : mass f + e10 ≠ 0 := (mass_pos f).ne'

theorem pdf_nonneg (f : Fin 512 → ℝ) (k : ℕ) : 0 ≤ pdf f k := div_nonneg (hist_nonneg _ _) (mass_pos _).le

theorem pdf_pos (f : Fin 512 → ℝ) (k : ℕ) {e : ℝ} (he : 0 < e) : 0 < pdf f k + e :=
  add_pos_of_nonneg_of_pos (pdf_nonneg _ _) he

/-- The divergence of the histogram of `f` from that of `g`, each raised by `e`. -/
def kl (e : ℝ) (f g : Fin 512 → ℝ) : ℝ :=
  ∑ k : Fin 100, (pdf g k + e) * (Real.log (pdf g k + e) - Real.log (pdf f k + e))

/-- A sum over 512 rows, in two blocks of 256. -/
theorem sum_blocks (F : Fin 512 → ℝ) :
    ∑ h, F h = (∑ r : Fin 256, F ⟨(0 : Fin 2).val * 256 + r.val, by omega⟩) + ∑ r : Fin 256, F ⟨(1 : Fin 2).val * 256 + r.val, by omega⟩ := by
  refine (Fin.sum_univ_add (a := 256) (b := 256) F).trans ?_
  refine congrArg₂ (· + ·) (sum_congr rfl fun r _ => congrArg F (Fin.ext ?_)) (sum_congr rfl fun r _ => congrArg F (Fin.ext ?_))
  · show r.val = 0 * 256 + r.val; omega
  · show 256 + r.val = 1 * 256 + r.val; omega

end Cert.Proof.Spec

end
-- ==== Proof.Consts.lean ====
/-
  The constants of the two programs as real numbers, and the ideal operations on real numbers.
-/
module

public import proofs.«01_k».proof.Proof.Math
public import proofs.«01_k».proof.KernelIdeal
public import Idealize.ShloMosaic.PureOps.Ideal
public import Idealize.ShloMosaic.PureOps.IdealRules
public import Idealize.ShloMosaic.Lib.Pointwise

@[expose] public section

noncomputable section

namespace Cert.Proof.Spec

open Idealize.ShloMosaic

theorem bits_zero : Ideal.ofBits .f32 0x00000000#32 = ((0 : ℝ) : EReal) := by
  simp [Ideal.ofBits, Ideal.ieee]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_bw : Ideal.ofBits .f32 0x3C23D70A#32 = ((bw : ℝ) : EReal) := by
  simp [Ideal.ofBits, Ideal.ieee, bw, -EReal.coe_mul]; norm_num
theorem bits_e10 : Ideal.ofBits .f32 0x2EDBE6FF#32 = ((e10 : ℝ) : EReal) := by
  simp [Ideal.ofBits, Ideal.ieee, e10, -EReal.coe_mul]; norm_num
theorem bits_e6 : Ideal.ofBits .f32 0x358637BD#32 = ((e6 : ℝ) : EReal) := by
  simp [Ideal.ofBits, Ideal.ieee, e6, -EReal.coe_mul]; norm_num
theorem bits_e5 : Ideal.ofBits .f32 0x3727C5AC#32 = ((e5 : ℝ) : EReal) := by
  simp [Ideal.ofBits, Ideal.ieee, e5, -EReal.coe_mul]; norm_num
theorem bits_mega : Ideal.ofBits .f32 0x49800000#32 = ((1048576 : ℝ) : EReal) := by
  simp [Ideal.ofBits, Ideal.ieee, -EReal.coe_mul]; norm_num
theorem bits_4096 : Ideal.ofBits .f32 0x45800000#32 = ((4096 : ℝ) : EReal) := by
  simp [Ideal.ofBits, Ideal.ieee, -EReal.coe_mul]; norm_num
theorem bits_2048 : Ideal.ofBits .f32 0x45000000#32 = ((2048 : ℝ) : EReal) := by
  simp [Ideal.ofBits, Ideal.ieee, -EReal.coe_mul]; norm_num

/-- The named constant is the exact reciprocal of the bin width. -/
theorem named_ib : Named.named (F := Ideal) (φ := .f32) Cert.KernelIdeal.κ "inv_bw" 0x42C80000#32 = ((ib : ℝ) : EReal) :=
  IdealRules.named_const.ideal_named_scalar _ _ _ _ rfl

theorem div_real (x : ℝ) {y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

theorem max_real (x y : ℝ) : max (x : EReal) (y : EReal) = ((max x y : ℝ) : EReal) :=
  (EReal.coe_strictMono.monotone.map_max).symm

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_real_of {ι : Type} [Fintype ι] {g : ι → EReal} {f : ι → ℝ} (h : ∀ i, g i = (f i : EReal)) :
    ∑ i, g i = ((∑ i, f i : ℝ) : EReal) := by
  rw [Finset.sum_congr rfl fun i _ => h i, sum_real]

/-- A small count as a real number. -/
theorem sitofp_nat (j : ℕ) (h : j < 104) :
    FloatOps.sitofp (F := Ideal) FTy.f32 (BitVec.ofNat 32 j) = (((j : ℕ) : ℝ) : EReal) := by
  have e : (BitVec.ofNat 32 j).toInt = (j : ℤ) := by
    rw [BitVec.toInt_eq_toNat_of_lt, BitVec.toNat_ofNat, Nat.mod_eq_of_lt (by omega)]
    rw [BitVec.toNat_ofNat, Nat.mod_eq_of_lt (by omega)]; omega
  show (((BitVec.ofNat 32 j).toInt : ℝ) : EReal) = _
  rw [e]; push_cast; rfl

theorem abs_real (x : ℝ) : FloatOps.absf (F := Ideal) (φ := .f32) (x : EReal) = ((|x| : ℝ) : EReal) := by
  rw [abs_eq_max_neg]
  exact (congrArg _ (EReal.coe_neg x).symm).trans (max_real _ _)

/-- The divergence of two lines, bin by bin, as the kernel spells it. -/
theorem kl_real (f g : Fin 512 → ℝ) {e : ℝ} (he : 0 < e) :
    (∑ k : Fin 100, ((pdf g k + e : ℝ) : EReal) * (Ideal.log ((pdf g k + e : ℝ) : EReal)
        - Ideal.log ((pdf f k + e : ℝ) : EReal))) = ((kl e f g : ℝ) : EReal) :=
  sum_real_of fun k => by
    rw [log_real (pdf_pos g k he), log_real (pdf_pos f k he),
      ← EReal.coe_sub, ← EReal.coe_mul]

/-- The histogram divided by its mass, as the kernel spells it. -/
theorem pdf_real (f : Fin 512 → ℝ) (k : ℕ) :
    Ideal.div ((hist f k : ℝ) : EReal) (((∑ x : Fin 100, hist f x : ℝ) : EReal) + Ideal.ofBits FTy.f32 786163455#32)
      = ((pdf f k : ℝ) : EReal) := by
  rw [bits_e10, ← EReal.coe_add]
  exact div_real _ (mass_ne f)

end Cert.Proof.Spec

end
-- ==== Proof.Wide.lean ====
/-
  The mathematics over the extended reals: what a pixel that is infinite does to the soft histogram and to the sum of
  absolute differences, in both spellings, and the loss in both spellings for images of any contents.
-/
module

public import proofs.«01_k».proof.Proof.Consts
public import proofs.«01_k».proof.Proof.Math

@[expose] public section

set_option maxRecDepth 16384

noncomputable section

namespace Cert.Proof.Spec

open Finset
open Idealize.ShloMosaic

/-! ## The distance of two pixels -/

/-- The absolute difference of two pixels. -/
def gap (a b : EReal) : EReal := FloatOps.absf (F := Ideal) (φ := .f32) (a - b)

theorem gap_eq (a b : EReal) : gap a b = max (a - b) (-(a - b)) := rfl

theorem gap_nonneg (a b : EReal) : 0 ≤ gap a b := by
  rw [gap_eq]
  rcases le_total 0 (a - b) with h | h
  · exact h.trans (le_max_left _ _)
  · exact (EReal.neg_nonneg.mpr h).trans (le_max_right _ _)

/-- Of two pixels one of which is infinite the distance is infinite. -/
theorem gap_top (a b : EReal) (h : (a = ⊤ ∨ a = ⊥) ∨ (b = ⊤ ∨ b = ⊥)) : gap a b = ⊤ := by
  rw [gap_eq]
  induction a <;> induction b <;> simp_all

/-! ## Infinite pixels in the histogram -/

/-- A pixel as the histogram sees it: an infinite one lies outside every bin, as minus one does. -/
def px (a : EReal) : ℝ := if a = ⊤ ∨ a = ⊥ then -1 else a.toReal

theorem px_real (r : ℝ) : px (r : EReal) = r := by simp [px]
theorem px_top : px ⊤ = -1 := by simp [px]
theorem px_bot : px ⊥ = -1 := by simp [px]

/-- Minus one lies outside every bin. -/
theorem dist_out (k : ℕ) : ¬ dist (-1) k ≤ 1 := by
  rw [dist_eq, not_le]
  have h : (-1 * ib - ((k : ℝ) + 1 / 2)) < -1 := by
    have : (0 : ℝ) ≤ k := Nat.cast_nonneg k
    unfold ib; linarith
  rw [abs_of_neg (by linarith)]
  linarith

/-- A line whose pixels all lie outside the bins has an empty histogram. -/
theorem hist_out (k : ℕ) : hist (fun _ => -1) k = 0 := by
  unfold hist
  simp only [if_neg (dist_out k), sum_const_zero]

/-- The ramp of a pixel that starts at point `j`. -/
def rampE (a : EReal) (j : ℕ) : EReal := max (a * ((ib : ℝ) : EReal) + ((1 / 2 : ℝ) : EReal) - ((j : ℝ) : EReal)) 0

/-- The sum of the ramps of a line that start at point `j`. -/
def psiE (g : Fin 512 → EReal) (j : ℕ) : EReal := ∑ w, rampE (g w) j

/-- A line as the kernel's histogram sees it: one with a pixel at plus infinity loses all its pixels. -/
def lineK (g : Fin 512 → EReal) : Fin 512 → ℝ := open Classical in if ∃ w, g w = ⊤ then fun _ => -1 else fun w => px (g w)

/-- What the kernel's ramp sums may be for its second differences to give the histogram of `f`. -/
def Good (s : ℕ → EReal) (f : Fin 512 → ℝ) : Prop :=
  (∀ j, s j = ((psi f j : ℝ) : EReal)) ∨ ((∀ j, s j = ⊤) ∧ ∀ k, hist f k = 0)

theorem ib_pos : 0 < ib := by norm_num [ib]

theorem rampE_nonneg (a : EReal) (j : ℕ) : 0 ≤ rampE a j := le_max_right _ _

theorem rampE_top (j : ℕ) : rampE ⊤ j = ⊤ := by
  unfold rampE
  rw [EReal.top_mul_coe_of_pos ib_pos, EReal.top_add_coe, EReal.top_sub_coe]
  simp

theorem rampE_px (a : EReal) (h : a ≠ ⊤) (j : ℕ) : rampE a j = ((max (px a * ib + 1 / 2 - j) 0 : ℝ) : EReal) := by
  induction a with
  | top => exact absurd rfl h
  | coe r =>
    unfold rampE
    rw [px_real, ← EReal.coe_mul, ← EReal.coe_add, ← EReal.coe_sub, ← EReal.coe_zero, max_real]
  | bot =>
    have e : max (-1 * ib + 1 / 2 - (j : ℝ)) 0 = 0 := max_eq_right (by
      have : (0 : ℝ) ≤ j := Nat.cast_nonneg j
      unfold ib; linarith)
    unfold rampE
    rw [px_bot, e, EReal.bot_mul_coe_of_pos ib_pos, EReal.bot_add, EReal.bot_sub]
    simp

theorem good_psi (g : Fin 512 → EReal) : Good (psiE g) (lineK g) := by
  by_cases h : ∃ w, g w = ⊤
  · refine Or.inr ⟨fun j => ?_, fun k => ?_⟩
    · obtain ⟨w, hw⟩ := h
      refine top_le_iff.mp ?_
      have := single_le_sum (f := fun w => rampE (g w) j) (fun i _ => rampE_nonneg (g i) j) (mem_univ w)
      simp only [hw, rampE_top] at this
      exact this
    · rw [lineK, if_pos h]; exact hist_out k
  · refine Or.inl fun j => ?_
    rw [lineK, if_neg h]
    exact sum_real_of fun w => rampE_px _ (fun e => h ⟨w, e⟩) j

/-- The second difference of the ramp sums, as the kernel spells it. -/
theorem hist_real (f : Fin 512 → ℝ) (k : ℕ) :
    ((psi f k : ℝ) : EReal) - Ideal.ofBits FTy.f32 1073741824#32 * ((psi f (1 + k) : ℝ) : EReal)
        + ((psi f (2 + k) : ℝ) : EReal) = ((hist f k : ℝ) : EReal) := by
  rw [bits_two, ← EReal.coe_mul, ← EReal.coe_sub, ← EReal.coe_add, ← psi_hist, add_comm 1 k, add_comm 2 k]

/-- The normalised histogram from the ramp sums, as the kernel spells it. -/
theorem pdf_good {s : ℕ → EReal} {f : Fin 512 → ℝ} (h : Good s f) (k : ℕ) :
    Ideal.div (s k - Ideal.ofBits FTy.f32 1073741824#32 * s (1 + k) + s (2 + k))
        ((∑ x : Fin 100, (s x - Ideal.ofBits FTy.f32 1073741824#32 * s (1 + x) + s (2 + x))) + Ideal.ofBits FTy.f32 786163455#32)
      = ((pdf f k : ℝ) : EReal) := by
  rcases h with h | ⟨h, h0⟩
  · simp only [h, hist_real, sum_real]
    exact pdf_real f k
  · have z : ((⊤ : EReal) - Ideal.ofBits FTy.f32 1073741824#32 * ⊤ + ⊤) = ⊥ := by
      rw [bits_two, EReal.coe_mul_top_of_pos (by norm_num)]
      rfl
    have p : pdf f k = 0 := by unfold pdf; rw [h0, zero_div]
    simp only [h, z]
    rw [Fin.sum_univ_succ, EReal.bot_add, EReal.bot_add, p]
    unfold Ideal.div
    rw [if_neg EReal.bot_ne_zero, EReal.inv_bot, mul_zero, EReal.coe_zero]

/-! ## Sums -/

/-- A sum with an infinite term is infinite. -/
theorem sum_inf {ι : Type} [Fintype ι] (f : ι → EReal) (h : ∃ i, f i = ⊤ ∨ f i = ⊥) : ∑ i, f i = ⊤ ∨ ∑ i, f i = ⊥ := by
  classical
  obtain ⟨i, h⟩ := h
  rw [← add_sum_erase univ f (mem_univ i)]
  generalize ∑ x ∈ univ.erase i, f x = r
  rcases h with h | h <;> rw [h] <;> induction r <;> simp

/-- A factor goes into a sum of terms that are not negative. -/
theorem mul_sum_nonneg {ι : Type} [Fintype ι] (c : EReal) (f : ι → EReal) (h : ∀ i, 0 ≤ f i) : c * ∑ i, f i = ∑ i, c * f i := by
  classical
  have : ∀ s : Finset ι, c * ∑ i ∈ s, f i = ∑ i ∈ s, c * f i := fun s => by
    induction s using Finset.induction_on with
    | empty => simp
    | insert a s ha ih => rw [sum_insert ha, sum_insert ha, EReal.left_distrib_of_nonneg (h a) (sum_nonneg fun i _ => h i), ih]
  exact this univ

/-- A positive real factor goes into any sum. -/
theorem sum_mul_pos {ι : Type} [Fintype ι] (r : ℝ) (hr : 0 ≤ r) (f : ι → EReal) : (∑ i, f i) * (r : EReal) = ∑ i, f i * (r : EReal) := by
  classical
  have : ∀ s : Finset ι, (∑ i ∈ s, f i) * (r : EReal) = ∑ i ∈ s, f i * (r : EReal) := fun s => by
    induction s using Finset.induction_on with
    | empty => simp
    | insert a s ha ih =>
      rw [sum_insert ha, sum_insert ha, ← ih, mul_comm, EReal.left_distrib_of_nonneg_of_ne_top (by exact_mod_cast hr) (EReal.coe_ne_top r),
        mul_comm _ (f a), mul_comm (r : EReal)]
  exact this univ

/-- A sum over 512 rows, in two blocks of 256. -/
theorem sum_blocksE (F : Fin 512 → EReal) :
    ∑ h, F h = (∑ r : Fin 256, F ⟨(0 : Fin 2).val * 256 + r.val, by omega⟩) + ∑ r : Fin 256, F ⟨(1 : Fin 2).val * 256 + r.val, by omega⟩ := by
  refine (Fin.sum_univ_add (a := 256) (b := 256) F).trans ?_
  refine congrArg₂ (· + ·) (sum_congr rfl fun r _ => congrArg F (Fin.ext ?_)) (sum_congr rfl fun r _ => congrArg F (Fin.ext ?_))
  · show r.val = 0 * 256 + r.val; omega
  · show 256 + r.val = 1 * 256 + r.val; omega

/-! ## The weighted absolute differences -/

theorem div_ne (a : EReal) {w : EReal} (h : w ≠ 0) : Ideal.div a w = a * w⁻¹ := by unfold Ideal.div; rw [if_neg h]

/-- A distance times a weight and over it, with the weight and its reciprocal added first. -/
theorem both_eq (d w : EReal) (hd : 0 ≤ d) (hw : w ≠ 0) : d * w + Ideal.div d w = (w + Ideal.div 1 w) * d := by
  rw [div_ne _ hw, div_ne _ hw, one_mul, mul_comm _ d]
  rcases lt_or_gt_of_ne hw with h | h
  · have h' : w⁻¹ ≤ 0 := EReal.inv_nonpos_of_nonpos h.le
    have e := EReal.left_distrib_of_nonneg (c := d) (EReal.neg_nonneg.mpr h.le) (EReal.neg_nonneg.mpr h')
    have n : -w + -w⁻¹ = -(w + w⁻¹) := by
      induction w <;> simp_all [EReal.neg_add, ← EReal.coe_inv, ← EReal.coe_neg, ← EReal.coe_add, add_comm]
    have m : d * (-w) + d * (-w⁻¹) = -(d * w + d * w⁻¹) := by
      rw [mul_neg, mul_neg, EReal.neg_add, sub_eq_add_neg]
      · exact Or.inr (ne_of_lt (lt_of_le_of_lt (EReal.mul_nonpos_iff.mpr (Or.inl ⟨hd, h'⟩)) EReal.zero_lt_top))
      · exact Or.inl (ne_of_lt (lt_of_le_of_lt (EReal.mul_nonpos_iff.mpr (Or.inl ⟨hd, h.le⟩)) EReal.zero_lt_top))
    rw [n, m, mul_neg] at e
    exact (neg_injective e).symm
  · exact (EReal.left_distrib_of_nonneg h.le (EReal.inv_nonneg_of_nonneg h.le)).symm

/-- An infinite distance's weighted terms are infinite. -/
theorem both_inf (w : EReal) (hw : w ≠ 0) : ⊤ * w + Ideal.div ⊤ w = ⊤ ∨ ⊤ * w + Ideal.div ⊤ w = ⊥ := by
  rw [div_ne _ hw]
  rcases lt_or_gt_of_ne hw with h | h
  · right; rw [EReal.top_mul_of_neg h, EReal.bot_add]
  · left
    rw [EReal.top_mul_of_pos h, EReal.top_add_of_ne_bot]
    exact ne_of_gt (lt_of_lt_of_le EReal.bot_lt_zero (mul_nonneg le_top (EReal.inv_nonneg_of_nonneg h.le)))

/-! ## The loss in its two spellings -/

/-- A line as the reference's histogram sees it. -/
def lineR (g : Fin 512 → EReal) : Fin 512 → ℝ := fun w => px (g w)

/-- The two see the same where no pixel is infinite. -/
theorem line_eq (g : Fin 512 → EReal) (h : ∀ w, ¬ (g w = ⊤ ∨ g w = ⊥)) : lineK g = lineR g := by
  rw [lineK, if_neg fun ⟨w, e⟩ => h w (Or.inl e)]
  rfl

/-- The sum of the absolute differences of half `s` of image `b`. -/
def diffs (X T : Fin 4 → Fin 512 → Fin 512 → EReal) (b : Fin 4) (s : Fin 2) : EReal :=
  ∑ r : Fin 256, ∑ w : Fin 512, gap (X b ⟨s.val * 256 + r.val, by omega⟩ w) (T b ⟨s.val * 256 + r.val, by omega⟩ w)

/-- The sum of the row divergences of half `s` of image `b`, as the kernel sees the rows. -/
def klsK (X T : Fin 4 → Fin 512 → Fin 512 → EReal) (b : Fin 4) (s : Fin 2) : ℝ :=
  ∑ r : Fin 256, kl e5 (lineK (X b ⟨s.val * 256 + r.val, by omega⟩)) (lineK (T b ⟨s.val * 256 + r.val, by omega⟩))

/-- The first weight's factor. -/
def fac1 (w : EReal) : EReal := Ideal.div (w + Ideal.div 1 w) ((1048576 : ℝ) : EReal)

/-- What the kernel adds for image `b`. -/
def addedK (X T : Fin 4 → Fin 512 → Fin 512 → EReal) (s1 : Fin 4 → EReal) (s2 : Fin 4 → ℝ) (b : Fin 4) : EReal :=
  (s1 b * diffs X T b 0 + ((s2 b * klsK X T b 0 : ℝ) : EReal)) + (s1 b * diffs X T b 1 + ((s2 b * klsK X T b 1 : ℝ) : EReal))

/-- The loss as the kernel sums it: block by block of 256 rows, each block weighted as a whole. -/
def kernelWide (X T : Fin 4 → Fin 512 → Fin 512 → EReal) (w1 : Fin 4 → EReal) (w2 w3 : Fin 4 → ℝ) : EReal :=
  (∑ b : Fin 4, addedK X T (fun b => fac1 (w1 b)) (fun b => (w2 b + 1 / w2 b) / 4096) b)
    + ((∑ b : Fin 4, (w3 b + 1 / w3 b) / 4096 * kl e6 (lineK fun h => X b h 0) (lineK fun h => T b h 0) : ℝ) : EReal)

/-- The divergences' part of the loss as the reference sums it. -/
def restR (X T : Fin 4 → Fin 512 → Fin 512 → EReal) (w2 w3 : Fin 4 → ℝ) : ℝ :=
  ((∑ b : Fin 4, ∑ h : Fin 512, (kl e5 (lineR (X b h)) (lineR (T b h)) * w2 b + kl e5 (lineR (X b h)) (lineR (T b h)) / w2 b)) / 2048
    + (∑ b : Fin 4, ∑ h : Fin 512,
        ((if h = 0 then kl e6 (lineR fun h => X b h 0) (lineR fun h => T b h 0) else 0) * w3 b
          + (if h = 0 then kl e6 (lineR fun h => X b h 0) (lineR fun h => T b h 0) else 0) / w3 b)) / 2048) / 2

/-- The weighted absolute differences as the reference sums them. -/
def firstR (X T : Fin 4 → Fin 512 → Fin 512 → EReal) (w1 : Fin 4 → EReal) : EReal :=
  ∑ b : Fin 4, ∑ h : Fin 512, ∑ w : Fin 512, (gap (X b h w) (T b h w) * w1 b + Ideal.div (gap (X b h w) (T b h w)) (w1 b))

/-- The loss as the reference sums it: every pixel's difference and every row multiplied and divided by its weight. -/
def referenceWide (X T : Fin 4 → Fin 512 → Fin 512 → EReal) (w1 : Fin 4 → EReal) (w2 w3 : Fin 4 → ℝ) : EReal :=
  Ideal.div (firstR X T w1) ((1048576 : ℝ) : EReal) + ((restR X T w2 w3 : ℝ) : EReal)

section
variable (X T : Fin 4 → Fin 512 → Fin 512 → EReal) (w1 : Fin 4 → EReal) (w2 w3 : Fin 4 → ℝ)

theorem div_mega (a : EReal) : Ideal.div a ((1048576 : ℝ) : EReal) = a * ((1 / 1048576 : ℝ) : EReal) := Ideal.div_coe (by norm_num) a

/-- The weighted absolute differences agree. -/
theorem first_eq (n1 : ∀ b, w1 b ≠ 0) :
    ∑ b : Fin 4, (fac1 (w1 b) * diffs X T b 0 + fac1 (w1 b) * diffs X T b 1) = Ideal.div (firstR X T w1) ((1048576 : ℝ) : EReal) := by
  rw [div_mega, firstR, sum_mul_pos _ (by norm_num)]
  refine sum_congr rfl fun b _ => ?_
  have p0 : 0 ≤ diffs X T b 0 := sum_nonneg fun _ _ => sum_nonneg fun _ _ => gap_nonneg _ _
  have p1 : 0 ≤ diffs X T b 1 := sum_nonneg fun _ _ => sum_nonneg fun _ _ => gap_nonneg _ _
  have e : ∑ h : Fin 512, ∑ w : Fin 512, (gap (X b h w) (T b h w) * w1 b + Ideal.div (gap (X b h w) (T b h w)) (w1 b))
      = (w1 b + Ideal.div 1 (w1 b)) * (diffs X T b 0 + diffs X T b 1) := by
    refine Eq.trans ?_ (congrArg _ (sum_blocksE fun h => ∑ w, gap (X b h w) (T b h w)))
    rw [mul_sum_nonneg _ _ fun h => sum_nonneg fun w _ => gap_nonneg _ _]
    refine sum_congr rfl fun h _ => ?_
    rw [mul_sum_nonneg _ _ fun w => gap_nonneg _ _]
    exact sum_congr rfl fun w _ => both_eq _ _ (gap_nonneg _ _) (n1 b)
  rw [e, fac1, div_mega, ← EReal.left_distrib_of_nonneg p0 p1]
  ac_rfl

/-- Where a pixel is infinite the weighted absolute differences are infinite. -/
theorem first_inf (n1 : ∀ b, w1 b ≠ 0) (b : Fin 4) (h w : Fin 512)
    (i : (X b h w = ⊤ ∨ X b h w = ⊥) ∨ (T b h w = ⊤ ∨ T b h w = ⊥)) :
    Ideal.div (firstR X T w1) ((1048576 : ℝ) : EReal) = ⊤ ∨ Ideal.div (firstR X T w1) ((1048576 : ℝ) : EReal) = ⊥ := by
  have e : firstR X T w1 = ⊤ ∨ firstR X T w1 = ⊥ := by
    refine sum_inf _ ⟨b, sum_inf _ ⟨h, sum_inf _ ⟨w, ?_⟩⟩⟩
    rw [gap_top _ _ i]
    exact both_inf _ (n1 b)
  rw [div_mega]
  rcases e with e | e <;> rw [e]
  · left; exact EReal.top_mul_coe_of_pos (by norm_num)
  · right; exact EReal.bot_mul_coe_of_pos (by norm_num)

/-- The kernel's divergences. -/
def restK : ℝ :=
  (∑ b : Fin 4, ((w2 b + 1 / w2 b) / 4096 * klsK X T b 0 + (w2 b + 1 / w2 b) / 4096 * klsK X T b 1))
    + ∑ b : Fin 4, (w3 b + 1 / w3 b) / 4096 * kl e6 (lineK fun h => X b h 0) (lineK fun h => T b h 0)

/-- The kernel's loss in its two parts. -/
theorem kernel_parts : kernelWide X T w1 w2 w3
    = (∑ b : Fin 4, (fac1 (w1 b) * diffs X T b 0 + fac1 (w1 b) * diffs X T b 1)) + ((restK X T w2 w3 : ℝ) : EReal) := by
  have e : ∀ b : Fin 4, addedK X T (fun b => fac1 (w1 b)) (fun b => (w2 b + 1 / w2 b) / 4096) b
      = (fac1 (w1 b) * diffs X T b 0 + fac1 (w1 b) * diffs X T b 1)
        + (((w2 b + 1 / w2 b) / 4096 * klsK X T b 0 + (w2 b + 1 / w2 b) / 4096 * klsK X T b 1 : ℝ) : EReal) := fun b => by
    unfold addedK
    rw [EReal.coe_add]
    dsimp only
    ac_rfl
  unfold kernelWide restK
  rw [sum_congr rfl fun b _ => e b, sum_add_distrib, sum_real, EReal.coe_add, add_assoc]

/-- Where no pixel is infinite the divergences agree. -/
theorem rest_eq (h : ∀ b h w, ¬ ((X b h w = ⊤ ∨ X b h w = ⊥) ∨ (T b h w = ⊤ ∨ T b h w = ⊥))) : restK X T w2 w3 = restR X T w2 w3 := by
  have kx : ∀ b h, lineK (X b h) = lineR (X b h) := fun b i => line_eq _ fun w e => h b i w (Or.inl e)
  have kt : ∀ b h, lineK (T b h) = lineR (T b h) := fun b i => line_eq _ fun w e => h b i w (Or.inr e)
  have cx : ∀ b, (lineK fun h => X b h 0) = lineR fun h => X b h 0 := fun b => line_eq _ fun i e => h b i 0 (Or.inl e)
  have ct : ∀ b, (lineK fun h => T b h 0) = lineR fun h => T b h 0 := fun b => line_eq _ fun i e => h b i 0 (Or.inr e)
  have h2 : ∀ b, ∑ h : Fin 512, (kl e5 (lineR (X b h)) (lineR (T b h)) * w2 b + kl e5 (lineR (X b h)) (lineR (T b h)) / w2 b)
      = (w2 b + 1 / w2 b) * ∑ h : Fin 512, kl e5 (lineR (X b h)) (lineR (T b h)) := fun b => by
    rw [mul_sum]; refine sum_congr rfl fun h _ => ?_
    ring
  have h3 : ∀ b, ∑ h : Fin 512,
          ((if h = 0 then kl e6 (lineR fun h => X b h 0) (lineR fun h => T b h 0) else 0) * w3 b
            + (if h = 0 then kl e6 (lineR fun h => X b h 0) (lineR fun h => T b h 0) else 0) / w3 b)
      = (w3 b + 1 / w3 b) * kl e6 (lineR fun h => X b h 0) (lineR fun h => T b h 0) := fun b => by
    rw [Finset.sum_eq_single (0 : Fin 512)]
    · rw [if_pos rfl]; ring
    · intro h _ hne; rw [if_neg hne]; ring
    · intro h; exact absurd (mem_univ _) h
  unfold restK restR klsK
  simp only [h2, h3, kx, kt, cx, ct]
  rw [sum_div, sum_div, ← sum_add_distrib, ← sum_add_distrib, sum_div]
  refine sum_congr rfl fun b _ => ?_
  rw [sum_blocks (fun h => kl e5 (lineR (X b h)) (lineR (T b h)))]
  ring

/-- The two spellings of the loss agree, whatever the images hold. -/
theorem wide_eq (n1 : ∀ b, w1 b ≠ 0) : kernelWide X T w1 w2 w3 = referenceWide X T w1 w2 w3 := by
  rw [kernel_parts, first_eq X T w1 n1, referenceWide]
  by_cases h : ∀ b h w, ¬ ((X b h w = ⊤ ∨ X b h w = ⊥) ∨ (T b h w = ⊤ ∨ T b h w = ⊥))
  · rw [rest_eq X T w2 w3 h]
  · push Not at h
    obtain ⟨b, h, w, i⟩ := h
    rcases first_inf X T w1 n1 b h w i with e | e <;> rw [e]
    · rw [EReal.top_add_coe, EReal.top_add_coe]
    · rw [EReal.bot_add, EReal.bot_add]

end

end Cert.Proof.Spec

end
-- ==== Proof.KernelPay.lean ====
/-
  What the kernel's payloads compute: ramp sums, absolute differences, normalised histograms and
  divergences, block by block.
-/
module

public import proofs.«01_k».proof.Proof.Wide
public import proofs.«01_k».proof.Proof.Gen.KernelIdeal.Skeleton
public import Idealize.ShloMosaic.Lib.Pointwise

@[expose] public section

set_option maxRecDepth 16384

noncomputable section

namespace Cert.Proof.RunI

open Cert.KernelIdeal Cert.KernelIdeal.Gen
open Idealize.ShloMosaic Cert.Proof

/-- One ramp. -/
theorem ramp_eq (a : EReal) (j : ℕ) (h : j < 104) :
    max (a * Named.named (F := Ideal) (φ := .f32) κ "inv_bw" 1120403456#32 + Ideal.ofBits FTy.f32 1056964608#32
        - FloatOps.sitofp (F := Ideal) FTy.f32 (BitVec.ofNat 32 j)) 0
      = Spec.rampE a j := by
  rw [Spec.sitofp_nat j h, Spec.named_ib, Spec.bits_half]
  rfl

/-- A sum over 512 lanes, folded into 128. -/
theorem fold_lanes (F : Fin 512 → EReal) :
    ∑ x : Fin 128, ((F ⟨x, by omega⟩ + F ⟨128 + x, by omega⟩) + (F ⟨256 + x, by omega⟩ + F ⟨384 + x, by omega⟩)) = ∑ w, F w := by
  have h1 := Fin.sum_univ_add (a := 256) (b := 256) F
  have h2 := Fin.sum_univ_add (a := 128) (b := 128) (fun i => F (Fin.castAdd 256 i))
  have h3 := Fin.sum_univ_add (a := 128) (b := 128) (fun i => F (Fin.natAdd 256 i))
  rw [Finset.sum_add_distrib, Finset.sum_add_distrib, Finset.sum_add_distrib]
  refine Eq.trans ?_ (h1.trans (congrArg₂ (· + ·) h2 h3)).symm
  refine congrArg₂ (· + ·) rfl (congrArg₂ (· + ·) rfl (Finset.sum_congr rfl fun x _ => congrArg F (Fin.ext ?_)))
  show 384 + x.val = 256 + (128 + x.val)
  omega

/-- The ramp sums of a block of 256 rows. -/
theorem psi_256 (A : FVec Ideal S256x512 .f32) (r : Fin 256) (j : Fin 104) :
    k0_pay10 (F := Ideal) A (ix2 r j) = Spec.psiE (fun w => A (ix2 r w)) j := by
  pointwise [k0_pay10]
  simp only [ramp_eq _ _ j.isLt]
  exact fold_lanes fun w => Spec.rampE (A (ix2 r w)) j

theorem psi_256_16 (A : FVec Ideal S256x512 .f32) (r : Fin 256) (j : Fin 104) :
    k0_pay16 (F := Ideal) A (ix2 r j) = Spec.psiE (fun w => A (ix2 r w)) j := psi_256 A r j

theorem psi_256_17 (A : FVec Ideal S256x512 .f32) (r : Fin 256) (j : Fin 104) :
    k0_pay17 (F := Ideal) A (ix2 r j) = Spec.psiE (fun w => A (ix2 r w)) j := psi_256 A r j

/-- The ramp sums of the four first columns. -/
theorem psi_4 (A : FVec Ideal S4x512 .f32) (r : Fin 4) (j : Fin 104) :
    k0_pay22 (F := Ideal) A (ix2 r j) = Spec.psiE (fun w => A (ix2 r w)) j := by
  pointwise [k0_pay22]
  simp only [ramp_eq _ _ j.isLt]
  exact fold_lanes fun w => Spec.rampE (A (ix2 r w)) j

theorem psi_4' (A : FVec Ideal S4x512 .f32) (r : Fin 4) (j : Fin 104) :
    k0_pay21 (F := Ideal) (k0_pay20 (F := Ideal) A) (ix2 r j) = Spec.psiE (fun w => A (ix2 r w)) j := psi_4 A r j

/-- The histogram from ramp sums. -/
theorem pdf_256 (S : FVec Ideal S256x104 .f32) (s : Fin 256 → ℕ → EReal) (a : Fin 256 → Fin 512 → ℝ)
    (hS : ∀ r (j : Fin 104), S (ix2 r j) = s r j) (g : ∀ r, Spec.Good (s r) (a r)) (r : Fin 256) (k : Fin 100) :
    k0_pay11 (F := Ideal) S (ix2 r k) = ((Spec.pdf (a r) k : ℝ) : EReal) := by
  pointwise [k0_pay11, hS]
  exact Spec.pdf_good (g r) k

theorem diff_256 (X T : FVec Ideal S1x256x512 .f32) (x t : Fin 256 → Fin 512 → EReal)
    (hX : ∀ r w, X (ix3 0 r w) = x r w) (hT : ∀ r w, T (ix3 0 r w) = t r w) :
    k0_pay4 (F := Ideal) X T = ∑ r, ∑ w, Spec.gap (x r w) (t r w) := by
  pointwise [k0_pay4, k0_pay2, k0_pay3, hX, hT]
  rfl

/-- One half of a trip's second block: its weighted differences and its weighted divergences. -/
theorem pay18_real (P : EReal) (S U : FVec Ideal S256x104 .f32) (s u : Fin 256 → ℕ → EReal) (x t : Fin 256 → Fin 512 → ℝ)
    (hS : ∀ r (j : Fin 104), S (ix2 r j) = s r j) (hU : ∀ r (j : Fin 104), U (ix2 r j) = u r j)
    (gs : ∀ r, Spec.Good (s r) (x r)) (gu : ∀ r, Spec.Good (u r) (t r)) (s1 : EReal) (s2 : ℝ) :
    k0_pay18 (F := Ideal) P S U s1 (s2 : EReal)
      = s1 * P + ((s2 * ∑ r, Spec.kl Spec.e5 (x r) (t r) : ℝ) : EReal) := by
  pointwise [k0_pay18, hS, hU]
  simp only [fun r k => Spec.pdf_good (gs r) k, fun r k => Spec.pdf_good (gu r) k, Spec.sum_real, Spec.bits_e5, Spec.kl_real _ _ Spec.e5_pos, ← EReal.coe_add, ← EReal.coe_mul]

/-- The first block's, added to what came before. -/
theorem pay12_real (S U : FVec Ideal S256x104 .f32) (s u : Fin 256 → ℕ → EReal) (x t : Fin 256 → Fin 512 → ℝ)
    (hS : ∀ r (j : Fin 104), S (ix2 r j) = s r j) (hU : ∀ r (j : Fin 104), U (ix2 r j) = u r j)
    (gs : ∀ r, Spec.Good (s r) (x r)) (gu : ∀ r, Spec.Good (u r) (t r)) (a d s1 : EReal) (s2 : ℝ) :
    k0_pay12 (F := Ideal) a d (k0_pay11 S) (Scalar.ofBits .f32 0x3727C5AC#32) U s1 (s2 : EReal)
      = a + (s1 * d + ((s2 * ∑ r, Spec.kl Spec.e5 (x r) (t r) : ℝ) : EReal)) := by
  pointwise [k0_pay12, pdf_256 S s x hS gs, hU]
  simp only [fun r k => Spec.pdf_good (gu r) k, Spec.sum_real, Spec.bits_e5, Spec.kl_real _ _ Spec.e5_pos, ← EReal.coe_add, ← EReal.coe_mul]

/-- The four first columns' histograms. -/
theorem pdf_4 (S : FVec Ideal S4x104 .f32) (s : Fin 4 → ℕ → EReal) (a : Fin 4 → Fin 512 → ℝ)
    (hS : ∀ r (j : Fin 104), S (ix2 r j) = s r j) (g : ∀ r, Spec.Good (s r) (a r)) (r : Fin 4) (k : Fin 100) :
    k0_pay23 (F := Ideal) S (ix2 r k) = ((Spec.pdf (a r) k : ℝ) : EReal) := by
  pointwise [k0_pay23, hS]
  exact Spec.pdf_good (g r) k

/-- What the kernel writes: the blocks' sum and the columns' weighted divergences. -/
theorem pay1_real (a : EReal) (S U : FVec Ideal S4x104 .f32) (W : FVec Ideal S4x1 .f32) (s u : Fin 4 → ℕ → EReal) (x t : Fin 4 → Fin 512 → ℝ) (w : Fin 4 → ℝ)
    (hS : ∀ r (j : Fin 104), S (ix2 r j) = s r j) (hU : ∀ r (j : Fin 104), U (ix2 r j) = u r j)
    (gs : ∀ r, Spec.Good (s r) (x r)) (gu : ∀ r, Spec.Good (u r) (t r))
    (hW : ∀ r, W (ix2 r 0) = ((w r : ℝ) : EReal)) (i : S1x1.Idx) :
    k0_pay1 (F := Ideal) a (k0_pay23 S) k0_pay24 U W i
      = a + ((∑ r, w r * Spec.kl Spec.e6 (x r) (t r) : ℝ) : EReal) := by
  pointwise [k0_pay1, k0_pay24, pdf_4 S s x hS gs, hU, hW]
  simp only [fun r k => Spec.pdf_good (gu r) k, Spec.sum_real, Spec.bits_e6, Spec.kl_real _ _ Spec.e6_pos, Fin.sum_univ_one, ← EReal.coe_add, ← EReal.coe_mul]

end Cert.Proof.RunI

end
-- ==== Proof.KernelTripValue.lean ====
module

public import proofs.«01_k».proof.Proof.IdealTrip
public import proofs.«01_k».proof.Proof.KernelPay
public import Idealize.ShloMosaic.Lib.Pointwise
public import Idealize.ShloMosaic.Lib.VecWindow

@[expose] public section

set_option maxRecDepth 16384

noncomputable section

namespace Cert.Proof.RunI

open Cert.KernelIdeal Cert.KernelIdeal.Gen
open Idealize.ShloMosaic
open Idealize.ShloMosaic.TcCoe

section Trip

variable (c : Dev nD) (XA : Buf (Elt Ideal) (xM.view.loc (c : Thread nD τ))) (TA : Buf (Elt Ideal) (tM.view.loc (c : Thread nD τ)))
  (arg0 : Memref sig .tc .smem S4 .f32) (harg0 : arg0.IsWhole) (arg1 : Memref sig .tc .smem S4 .f32) (harg1 : arg1.IsWhole)
  (arg2 : Memref sig .tc .vmem S4x512 .f32) (harg2 : arg2.IsWhole) (arg3 : Memref sig .tc .vmem S4x512 .f32) (harg3 : arg3.IsWhole)
  (arg4 : Memref sig .tc .vmem S4x1 .f32) (harg4 : arg4.IsWhole) (arg7 : Memref sig .tc .vmem S1x1 .f32) (harg7 : arg7.IsWhole)
  (g0 : Buf (Elt Ideal) (arg0.view.loc (c : Thread nD τ))) (g1 : Buf (Elt Ideal) (arg1.view.loc (c : Thread nD τ)))

/-- Slot `s` of the first buffer, holding block `b`, as the body reads it. -/
def xIn (s : Fin 2) (b : Fin 8) : S1x256x512.Idx → Ideal .f32 :=
  View.readAt (Elt Ideal) bxM.view (Rect.unit (s := S2x256x512) (slotOff s) S1x256x512.size (slotOff_inb s)).toLoadRect
    ((xS s).view.writes (Elt Ideal) (xS s).view.junk [⟨Rect.whole S256x512, xPay c XA b⟩])
/-- Slot `s` of the second buffer, holding block `b`, as the body reads it. -/
def tIn (s : Fin 2) (b : Fin 8) : S1x256x512.Idx → Ideal .f32 :=
  View.readAt (Elt Ideal) btM.view (Rect.unit (s := S2x256x512) (slotOff s) S1x256x512.size (slotOff_inb s)).toLoadRect
    ((tS s).view.writes (Elt Ideal) (tS s).view.junk [⟨Rect.whole S256x512, tPay c TA b⟩])

/-- The trip's number from the four blocks and the weights it reads. -/
def tripVal (acc : Ideal .f32) (X T X' T' : FVec Ideal S1x256x512 .f32) (a b a' b' : Ideal .f32) : Ideal .f32 :=
  k0_pay19 (F := Ideal) (k0_pay12 (F := Ideal) acc (k0_pay4 (F := Ideal) X T) (k0_pay11 (F := Ideal) (k0_pay10 (F := Ideal) (k0_pay2 (F := Ideal) X))) (Scalar.ofBits .f32 0x3727C5AC#32) (k0_pay10 (F := Ideal) (k0_pay3 (F := Ideal) T)) a b)
    (k0_pay18 (F := Ideal) (k0_pay15 (F := Ideal) X' T') (k0_pay16 (F := Ideal) (k0_pay13 (F := Ideal) X')) (k0_pay17 (F := Ideal) (k0_pay14 (F := Ideal) T')) a' b')

theorem run_v209 (k : Fin k0_t1_loop.trips) : tripRun.sl.v209 (F := Ideal) c XA k = k0_pay10 (F := Ideal) (k0_pay2 (F := Ideal) (xIn c XA 0 (Ring.bk 8 (2 * k.val)))) := by
  unfold tripRun.sl.v209 tripRun.sl.Hsx_1
  rw [View.readCov_full]
  rfl
theorem run_v225 (k : Fin k0_t1_loop.trips) : tripRun.sl.v225 (F := Ideal) c TA k = k0_pay10 (F := Ideal) (k0_pay3 (F := Ideal) (tIn c TA 0 (Ring.bk 8 (2 * k.val)))) := by
  unfold tripRun.sl.v225 tripRun.sl.Hst_1
  rw [View.readCov_full]
  rfl
theorem run_v347 (k : Fin k0_t1_loop.trips) : tripRun.sl.v347 (F := Ideal) c XA k = k0_pay16 (F := Ideal) (k0_pay13 (F := Ideal) (xIn c XA 1 (Ring.bk 8 (2 * k.val + 1)))) := by
  unfold tripRun.sl.v347 tripRun.sl.Hsx_2
  rw [View.readCov_full]
  rfl
theorem run_v363 (k : Fin k0_t1_loop.trips) : tripRun.sl.v363 (F := Ideal) c TA k = k0_pay17 (F := Ideal) (k0_pay14 (F := Ideal) (tIn c TA 1 (Ring.bk 8 (2 * k.val + 1)))) := by
  unfold tripRun.sl.v363 tripRun.sl.Hst_2
  rw [View.readCov_full]
  rfl

theorem tripRun_eq (k : Fin k0_t1_loop.trips) (hk : k.val < 3) (acc : Ideal .f32) :
    (tripRun c XA TA arg0 harg0 arg1 harg1 arg2 harg2 arg3 harg3 arg4 harg4 arg7 harg7 g0 g1 k hk acc).1
      = tripVal acc (xIn c XA 0 (Ring.bk 8 (2 * k.val))) (tIn c TA 0 (Ring.bk 8 (2 * k.val)))
          (xIn c XA 1 (Ring.bk 8 (2 * k.val + 1))) (tIn c TA 1 (Ring.bk 8 (2 * k.val + 1)))
          (tripRun.sl.r_6 c arg0 g0 k) (tripRun.sl.r_7 c arg1 g1 k) (tripRun.sl.r_8 c arg0 g0 k) (tripRun.sl.r_9 c arg1 g1 k) := by
  unfold tripVal
  rw [← run_v209, ← run_v225, ← run_v347, ← run_v363]
  rfl

theorem last_v209 (k : Fin k0_t1_loop.trips) : tripLast.sl.v209 (F := Ideal) c XA k = k0_pay10 (F := Ideal) (k0_pay2 (F := Ideal) (xIn c XA 0 (Ring.bk 8 (2 * k.val)))) := by
  unfold tripLast.sl.v209 tripLast.sl.Hsx_1
  rw [View.readCov_full]
  rfl
theorem last_v225 (k : Fin k0_t1_loop.trips) : tripLast.sl.v225 (F := Ideal) c TA k = k0_pay10 (F := Ideal) (k0_pay3 (F := Ideal) (tIn c TA 0 (Ring.bk 8 (2 * k.val)))) := by
  unfold tripLast.sl.v225 tripLast.sl.Hst_1
  rw [View.readCov_full]
  rfl
theorem last_v347 (k : Fin k0_t1_loop.trips) : tripLast.sl.v347 (F := Ideal) c XA k = k0_pay16 (F := Ideal) (k0_pay13 (F := Ideal) (xIn c XA 1 (Ring.bk 8 (2 * k.val + 1)))) := by
  unfold tripLast.sl.v347 tripLast.sl.Hsx_2
  rw [View.readCov_full]
  rfl
theorem last_v363 (k : Fin k0_t1_loop.trips) : tripLast.sl.v363 (F := Ideal) c TA k = k0_pay17 (F := Ideal) (k0_pay14 (F := Ideal) (tIn c TA 1 (Ring.bk 8 (2 * k.val + 1)))) := by
  unfold tripLast.sl.v363 tripLast.sl.Hst_2
  rw [View.readCov_full]
  rfl

theorem tripLast_eq (k : Fin k0_t1_loop.trips) (hk : k.val = 3) (acc : Ideal .f32) :
    (tripLast c XA TA arg0 harg0 arg1 harg1 arg2 harg2 arg3 harg3 arg4 harg4 arg7 harg7 g0 g1 k hk acc).1
      = tripVal acc (xIn c XA 0 (Ring.bk 8 (2 * k.val))) (tIn c TA 0 (Ring.bk 8 (2 * k.val)))
          (xIn c XA 1 (Ring.bk 8 (2 * k.val + 1))) (tIn c TA 1 (Ring.bk 8 (2 * k.val + 1)))
          (tripLast.sl.r_6 c arg0 g0 k) (tripLast.sl.r_7 c arg1 g1 k) (tripLast.sl.r_8 c arg0 g0 k) (tripLast.sl.r_9 c arg1 g1 k) := by
  unfold tripVal
  rw [← last_v209, ← last_v225, ← last_v347, ← last_v363]
  rfl

/-- A block's words, at a place of it. -/
theorem xPay_at (b : Fin 8) (r : Fin 256) (w : Fin 512) :
    xPay c XA b (ix2 r w) = XA (ix2 ⟨b.val * 256 + r.val, by omega⟩ w) := by
  show XA ((Rect.unit (s := S2048x512) (blkOff b) S256x512.size (blkOff_inb b)).emb (ix2 r w)) = _
  congr 1
  funext a
  apply Fin.ext
  rw [Rect.emb_apply]
  match a with
  | ⟨0, _⟩ => show b.val * 256 + 1 * r.val = b.val * 256 + r.val; omega
  | ⟨1, _⟩ => show 0 + 1 * w.val = w.val; omega
theorem tPay_at (b : Fin 8) (r : Fin 256) (w : Fin 512) :
    tPay c TA b (ix2 r w) = TA (ix2 ⟨b.val * 256 + r.val, by omega⟩ w) := by
  show TA ((Rect.unit (s := S2048x512) (blkOff b) S256x512.size (blkOff_inb b)).emb (ix2 r w)) = _
  congr 1
  funext a
  apply Fin.ext
  rw [Rect.emb_apply]
  match a with
  | ⟨0, _⟩ => show b.val * 256 + 1 * r.val = b.val * 256 + r.val; omega
  | ⟨1, _⟩ => show 0 + 1 * w.val = w.val; omega

theorem cast_block : S1x256x512.ShapeCasts S256x512 := by decide

/-- Slot `s` holding block `b`, at a place of it. -/
theorem xIn_at (s : Fin 2) (b : Fin 8) (r : Fin 256) (w : Fin 512) :
    xIn c XA s b (ix3 0 r w) = XA (ix2 ⟨b.val * 256 + r.val, by omega⟩ w) := by
  have h := congrFun (View.read_writes_whole (xS s).view (xS s).view.junk (xPay c XA b)) (ix2 r w)
  have e := congrFun (Memref.read_squeeze_slice (Val := Elt Ideal) bxM (Rect.unit (s := S2x256x512) (slotOff s) S1x256x512.size (slotOff_inb s)) (fun _ => rfl)
    squeezes_S1x256x512_S256x512 cast_block ((xS s).view.writes (Elt Ideal) (xS s).view.junk [⟨Rect.whole S256x512, xPay c XA b⟩])) (ix2 r w)
  have e' := shapeCast_apply (xIn c XA s b) cast_block (ix2 r w) (ix3 0 r w) (by
    rw [Shape.rowMajor_val_two, Shape.rowMajor_val_three]
    show (0 * 256 + r.val) * 512 + w.val = r.val * 512 + w.val
    omega)
  exact (e.trans e').symm.trans (h.trans (xPay_at c XA b r w))
theorem tIn_at (s : Fin 2) (b : Fin 8) (r : Fin 256) (w : Fin 512) :
    tIn c TA s b (ix3 0 r w) = TA (ix2 ⟨b.val * 256 + r.val, by omega⟩ w) := by
  have h := congrFun (View.read_writes_whole (tS s).view (tS s).view.junk (tPay c TA b)) (ix2 r w)
  have e := congrFun (Memref.read_squeeze_slice (Val := Elt Ideal) btM (Rect.unit (s := S2x256x512) (slotOff s) S1x256x512.size (slotOff_inb s)) (fun _ => rfl)
    squeezes_S1x256x512_S256x512 cast_block ((tS s).view.writes (Elt Ideal) (tS s).view.junk [⟨Rect.whole S256x512, tPay c TA b⟩])) (ix2 r w)
  have e' := shapeCast_apply (tIn c TA s b) cast_block (ix2 r w) (ix3 0 r w) (by
    rw [Shape.rowMajor_val_two, Shape.rowMajor_val_three]
    show (0 * 256 + r.val) * 512 + w.val = r.val * 512 + w.val
    omega)
  exact (e.trans e').symm.trans (h.trans (tPay_at c TA b r w))

theorem off2_eq : ∀ k : Fin k0_t1_loop.trips, k0_off2 k = ![k.val] := by decide
theorem off4_eq : ∀ k : Fin k0_t1_loop.trips, k0_off4 k = ![k.val] := by decide

/-- A weight list, at the trip's image. -/
theorem weight_at (arg : Memref sig .tc .smem S4 .f32) (g : Buf (Elt Ideal) (arg.view.loc (c : Thread nD τ))) (off : Fin 1 → ℕ) (k : Fin 4) (h : off = ![k.val])
    (inb : ∀ a, off a + S1.size a ≤ S4.size a) (i : S1.Idx) :
    View.readAt (Elt Ideal) arg.view (Rect.unit (s := S4) off S1.size inb).toLoadRect g i = arg.view.read (Elt Ideal) g (ix1 k) := by
  subst h
  show arg.view.read (Elt Ideal) g ((Rect.unit (s := S4) ![k.val] S1.size inb).emb i) = _
  congr 1
  funext a
  apply Fin.ext
  rw [Rect.emb_apply]
  match a with
  | ⟨0, _⟩ =>
    have : (i 0).val < 1 := (i 0).isLt
    show k.val + 1 * (i 0).val = k.val
    omega

theorem tripRun_r_6 (k : Fin k0_t1_loop.trips) : tripRun.sl.r_6 (F := Ideal) c arg0 g0 k = arg0.view.read (Elt Ideal) g0 (ix1 (⟨k.val, lt_of_lt_of_eq k.isLt trips_eq⟩ : Fin 4)) :=
  weight_at c arg0 g0 _ _ (off2_eq k) _ _
theorem tripRun_r_7 (k : Fin k0_t1_loop.trips) : tripRun.sl.r_7 (F := Ideal) c arg1 g1 k = arg1.view.read (Elt Ideal) g1 (ix1 (⟨k.val, lt_of_lt_of_eq k.isLt trips_eq⟩ : Fin 4)) :=
  weight_at c arg1 g1 _ _ (off2_eq k) _ _
theorem tripRun_r_8 (k : Fin k0_t1_loop.trips) : tripRun.sl.r_8 (F := Ideal) c arg0 g0 k = arg0.view.read (Elt Ideal) g0 (ix1 (⟨k.val, lt_of_lt_of_eq k.isLt trips_eq⟩ : Fin 4)) :=
  weight_at c arg0 g0 _ _ (off4_eq k) _ _
theorem tripRun_r_9 (k : Fin k0_t1_loop.trips) : tripRun.sl.r_9 (F := Ideal) c arg1 g1 k = arg1.view.read (Elt Ideal) g1 (ix1 (⟨k.val, lt_of_lt_of_eq k.isLt trips_eq⟩ : Fin 4)) :=
  weight_at c arg1 g1 _ _ (off4_eq k) _ _
theorem tripLast_r_6 (k : Fin k0_t1_loop.trips) : tripLast.sl.r_6 (F := Ideal) c arg0 g0 k = arg0.view.read (Elt Ideal) g0 (ix1 (⟨k.val, lt_of_lt_of_eq k.isLt trips_eq⟩ : Fin 4)) :=
  weight_at c arg0 g0 _ _ (off2_eq k) _ _
theorem tripLast_r_7 (k : Fin k0_t1_loop.trips) : tripLast.sl.r_7 (F := Ideal) c arg1 g1 k = arg1.view.read (Elt Ideal) g1 (ix1 (⟨k.val, lt_of_lt_of_eq k.isLt trips_eq⟩ : Fin 4)) :=
  weight_at c arg1 g1 _ _ (off2_eq k) _ _
theorem tripLast_r_8 (k : Fin k0_t1_loop.trips) : tripLast.sl.r_8 (F := Ideal) c arg0 g0 k = arg0.view.read (Elt Ideal) g0 (ix1 (⟨k.val, lt_of_lt_of_eq k.isLt trips_eq⟩ : Fin 4)) :=
  weight_at c arg0 g0 _ _ (off4_eq k) _ _
theorem tripLast_r_9 (k : Fin k0_t1_loop.trips) : tripLast.sl.r_9 (F := Ideal) c arg1 g1 k = arg1.view.read (Elt Ideal) g1 (ix1 (⟨k.val, lt_of_lt_of_eq k.isLt trips_eq⟩ : Fin 4)) :=
  weight_at c arg1 g1 _ _ (off4_eq k) _ _

end Trip

end Cert.Proof.RunI
-- ==== Proof.KernelLoopValue.lean ====
module

public import proofs.«01_k».proof.Proof.KernelTripValue

@[expose] public section

set_option maxRecDepth 16384

noncomputable section

namespace Cert.Proof.RunI

open Cert.KernelIdeal Cert.KernelIdeal.Gen
open Idealize.ShloMosaic
open Idealize.ShloMosaic.TcCoe

theorem row_lt (b : Fin 4) (h : Fin 512) : b.val * 512 + h.val < 2048 := by omega
theorem half_lt (s : Fin 2) (r : Fin 256) : s.val * 256 + r.val < 512 := by omega

/-! ## A trip -/

/-- A trip adds the weighted sums of its two blocks. -/
theorem trip_real (a : EReal) (X T X' T' : FVec Ideal S1x256x512 .f32) (x t x' t' : Fin 256 → Fin 512 → EReal)
    (hX : ∀ r w, X (ix3 0 r w) = x r w) (hT : ∀ r w, T (ix3 0 r w) = t r w)
    (hX' : ∀ r w, X' (ix3 0 r w) = x' r w) (hT' : ∀ r w, T' (ix3 0 r w) = t' r w) (s1 : EReal) (s2 : ℝ) :
    tripVal a X T X' T' s1 (s2 : EReal) s1 (s2 : EReal)
      = a + ((s1 * (∑ r, ∑ w, Spec.gap (x r w) (t r w)) + ((s2 * ∑ r, Spec.kl Spec.e5 (Spec.lineK (x r)) (Spec.lineK (t r)) : ℝ) : EReal))
          + (s1 * (∑ r, ∑ w, Spec.gap (x' r w) (t' r w)) + ((s2 * ∑ r, Spec.kl Spec.e5 (Spec.lineK (x' r)) (Spec.lineK (t' r)) : ℝ) : EReal))) := by
  have p2 : ∀ r w, k0_pay2 (F := Ideal) X (ix2 r w) = x r w := fun r w => by pointwise [k0_pay2, hX]
  have p3 : ∀ r w, k0_pay3 (F := Ideal) T (ix2 r w) = t r w := fun r w => by pointwise [k0_pay3, hT]
  have p13 : ∀ r w, k0_pay13 (F := Ideal) X' (ix2 r w) = x' r w := fun r w => by pointwise [k0_pay13, hX']
  have p14 : ∀ r w, k0_pay14 (F := Ideal) T' (ix2 r w) = t' r w := fun r w => by pointwise [k0_pay14, hT']
  have p15 : k0_pay15 (F := Ideal) X' T' = ∑ r, ∑ w, Spec.gap (x' r w) (t' r w) := diff_256 X' T' x' t' hX' hT'
  have q2 := psi_256 (k0_pay2 (F := Ideal) X)
  have q3 := psi_256 (k0_pay3 (F := Ideal) T)
  have q13 := psi_256_16 (k0_pay13 (F := Ideal) X')
  have q14 := psi_256_17 (k0_pay14 (F := Ideal) T')
  simp only [p2] at q2
  simp only [p3] at q3
  simp only [p13] at q13
  simp only [p14] at q14
  unfold tripVal
  rw [diff_256 X T x t hX hT,
    pay12_real _ _ (fun r => Spec.psiE (x r)) (fun r => Spec.psiE (t r)) (fun r => Spec.lineK (x r)) (fun r => Spec.lineK (t r)) q2 q3
      (fun r => Spec.good_psi _) (fun r => Spec.good_psi _),
    pay18_real _ _ _ (fun r => Spec.psiE (x' r)) (fun r => Spec.psiE (t' r)) (fun r => Spec.lineK (x' r)) (fun r => Spec.lineK (t' r)) q13 q14
      (fun r => Spec.good_psi _) (fun r => Spec.good_psi _), p15]
  unfold k0_pay19
  show (_ : EReal) + (_ : EReal) = _
  rw [add_assoc]

section Loop

variable (c : Dev nD) (XA : Buf (Elt Ideal) (xM.view.loc (c : Thread nD τ))) (TA : Buf (Elt Ideal) (tM.view.loc (c : Thread nD τ)))
  (arg0 : Memref sig .tc .smem S4 .f32) (harg0 : arg0.IsWhole) (arg1 : Memref sig .tc .smem S4 .f32) (harg1 : arg1.IsWhole)
  (arg2 : Memref sig .tc .vmem S4x512 .f32) (harg2 : arg2.IsWhole) (arg3 : Memref sig .tc .vmem S4x512 .f32) (harg3 : arg3.IsWhole)
  (arg4 : Memref sig .tc .vmem S4x1 .f32) (harg4 : arg4.IsWhole) (arg7 : Memref sig .tc .vmem S1x1 .f32) (harg7 : arg7.IsWhole)
  (g0 : Buf (Elt Ideal) (arg0.view.loc (c : Thread nD τ))) (g1 : Buf (Elt Ideal) (arg1.view.loc (c : Thread nD τ)))
  (x t : Fin 4 → Fin 512 → Fin 512 → EReal) (s1 : Fin 4 → EReal) (s2 : Fin 4 → ℝ)
  (hX : ∀ (b : Fin 4) (h w : Fin 512), XA (ix2 (⟨b.val * 512 + h.val, row_lt b h⟩ : Fin 2048) w) = x b h w)
  (hT : ∀ (b : Fin 4) (h w : Fin 512), TA (ix2 (⟨b.val * 512 + h.val, row_lt b h⟩ : Fin 2048) w) = t b h w)
  (h1 : ∀ b : Fin 4, arg0.view.read (Elt Ideal) g0 (ix1 b) = s1 b)
  (h2 : ∀ b : Fin 4, arg1.view.read (Elt Ideal) g1 (ix1 b) = ((s2 b : ℝ) : EReal))

/-- Half `s` of an image. -/
def half (x : Fin 4 → Fin 512 → Fin 512 → EReal) (b : Fin 4) (s : Fin 2) : Fin 256 → Fin 512 → EReal := fun r w => x b ⟨s.val * 256 + r.val, half_lt s r⟩ w

theorem even_blk : ∀ k : Fin 4, (Ring.bk 8 (2 * k.val)).val * 256 = k.val * 512 := by decide
theorem odd_blk : ∀ k : Fin 4, (Ring.bk 8 (2 * k.val + 1)).val * 256 = k.val * 512 + 256 := by decide

include hX in
theorem even_x (k : Fin 4) (r : Fin 256) (w : Fin 512) : xIn c XA 0 (Ring.bk 8 (2 * k.val)) (ix3 0 r w) = half x k 0 r w := by
  rw [xIn_at]
  have e := hX k ⟨0 * 256 + r.val, by omega⟩ w
  have := even_blk k
  refine Eq.trans ?_ e
  congr 2
  apply Fin.ext
  show (Ring.bk 8 (2 * k.val)).val * 256 + r.val = k.val * 512 + (0 * 256 + r.val)
  omega
include hX in
theorem odd_x (k : Fin 4) (r : Fin 256) (w : Fin 512) : xIn c XA 1 (Ring.bk 8 (2 * k.val + 1)) (ix3 0 r w) = half x k 1 r w := by
  rw [xIn_at]
  have e := hX k ⟨1 * 256 + r.val, by omega⟩ w
  have := odd_blk k
  refine Eq.trans ?_ e
  congr 2
  apply Fin.ext
  show (Ring.bk 8 (2 * k.val + 1)).val * 256 + r.val = k.val * 512 + (1 * 256 + r.val)
  omega
include hT in
theorem even_t (k : Fin 4) (r : Fin 256) (w : Fin 512) : tIn c TA 0 (Ring.bk 8 (2 * k.val)) (ix3 0 r w) = half t k 0 r w := by
  rw [tIn_at]
  have e := hT k ⟨0 * 256 + r.val, by omega⟩ w
  have := even_blk k
  refine Eq.trans ?_ e
  congr 2
  apply Fin.ext
  show (Ring.bk 8 (2 * k.val)).val * 256 + r.val = k.val * 512 + (0 * 256 + r.val)
  omega
include hT in
theorem odd_t (k : Fin 4) (r : Fin 256) (w : Fin 512) : tIn c TA 1 (Ring.bk 8 (2 * k.val + 1)) (ix3 0 r w) = half t k 1 r w := by
  rw [tIn_at]
  have e := hT k ⟨1 * 256 + r.val, by omega⟩ w
  have := odd_blk k
  refine Eq.trans ?_ e
  congr 2
  apply Fin.ext
  show (Ring.bk 8 (2 * k.val + 1)).val * 256 + r.val = k.val * 512 + (1 * 256 + r.val)
  omega

include hX hT h1 h2 in
/-- The carried number after a trip. -/
theorem tripW_real (k : Fin k0_t1_loop.trips) (a : EReal) :
    tripW c XA TA arg0 harg0 arg1 harg1 arg2 harg2 arg3 harg3 arg4 harg4 arg7 harg7 g0 g1 k a
      = a + Spec.addedK x t s1 s2 ⟨k.val, lt_of_lt_of_eq k.isLt trips_eq⟩ := by
  have h4 : k.val < 4 := lt_of_lt_of_eq k.isLt trips_eq
  unfold tripW
  by_cases hk : k.val < 3
  · rw [dif_pos hk, tripRun_eq, tripRun_r_6, tripRun_r_7, tripRun_r_8, tripRun_r_9, h1, h2]
    exact trip_real a _ _ _ _ _ _ _ _ (even_x c XA x hX ⟨k.val, h4⟩) (even_t c TA t hT ⟨k.val, h4⟩) (odd_x c XA x hX ⟨k.val, h4⟩) (odd_t c TA t hT ⟨k.val, h4⟩) _ _
  · have hk3 : k.val = 3 := by omega
    rw [dif_neg hk, dif_pos hk3, tripLast_eq, tripLast_r_6, tripLast_r_7, tripLast_r_8, tripLast_r_9, h1, h2]
    exact trip_real a _ _ _ _ _ _ _ _ (even_x c XA x hX ⟨k.val, h4⟩) (even_t c TA t hT ⟨k.val, h4⟩) (odd_x c XA x hX ⟨k.val, h4⟩) (odd_t c TA t hT ⟨k.val, h4⟩) _ _

include hX hT h1 h2 in
/-- The carried number after the loop. -/
theorem acc_real (a : EReal) :
    accN c XA TA arg0 harg0 arg1 harg1 arg2 harg2 arg3 harg3 arg4 harg4 arg7 harg7 g0 g1 a k0_t1_loop.trips
      = a + ∑ b : Fin 4, Spec.addedK x t s1 s2 b := by
  have st : ∀ (k : ℕ) (hk : k < 4) (r : EReal),
      accN c XA TA arg0 harg0 arg1 harg1 arg2 harg2 arg3 harg3 arg4 harg4 arg7 harg7 g0 g1 a k = r →
      accN c XA TA arg0 harg0 arg1 harg1 arg2 harg2 arg3 harg3 arg4 harg4 arg7 harg7 g0 g1 (a : EReal) (k + 1) = r + Spec.addedK x t s1 s2 ⟨k, hk⟩ := by
    intro k hk r h
    rw [accN, dif_pos (lt_of_lt_of_eq hk trips_eq.symm), h]
    exact tripW_real c XA TA arg0 harg0 arg1 harg1 arg2 harg2 arg3 harg3 arg4 harg4 arg7 harg7 g0 g1 x t s1 s2 hX hT h1 h2 _ r
  rw [trips_eq, st 3 (by omega) _ (st 2 (by omega) _ (st 1 (by omega) _ (st 0 (by omega) a rfl))), Fin.sum_univ_four]
  show a + Spec.addedK x t s1 s2 0 + Spec.addedK x t s1 s2 1 + Spec.addedK x t s1 s2 2 + Spec.addedK x t s1 s2 3 = _
  ac_rfl

end Loop

end Cert.Proof.RunI
-- ==== Proof.KernelBodyValue.lean ====
module

public import proofs.«01_k».proof.Proof.KernelLoopValue
public import proofs.«01_k».proof.Proof.IdealBody

@[expose] public section

set_option maxRecDepth 16384

noncomputable section

namespace Cert.Proof.RunI

open Cert.KernelIdeal Cert.KernelIdeal.Gen
open Idealize.ShloMosaic
open Idealize.ShloMosaic.TcCoe

/-- A load of a rectangle after a store of the same rectangle reads what was stored. -/
theorem readCov_same {s : Shape} (v : View sig .tc .vmem s .f32) (R : Rect s) (w : R.shape.Idx → Ideal .f32) :
    v.readCov (Val := Elt Ideal) [⟨R, w⟩] R.toLoadRect = w := by
  funext j
  exact View.read_writes_cons_emb (Val := Elt Ideal) v v.junk R w [] j

variable (c : Dev nD) (XA : Buf (Elt Ideal) (xM.view.loc (c : Thread nD τ))) (TA : Buf (Elt Ideal) (tM.view.loc (c : Thread nD τ)))
  (arg0 : Memref sig .tc .smem S4 .f32) (harg0 : arg0.IsWhole) (arg1 : Memref sig .tc .smem S4 .f32) (harg1 : arg1.IsWhole)
  (arg2 : Memref sig .tc .vmem S4x512 .f32) (harg2 : arg2.IsWhole) (arg3 : Memref sig .tc .vmem S4x512 .f32) (harg3 : arg3.IsWhole)
  (arg4 : Memref sig .tc .vmem S4x1 .f32) (harg4 : arg4.IsWhole) (arg7 : Memref sig .tc .vmem S1x1 .f32) (harg7 : arg7.IsWhole)
  (g0 : Buf (Elt Ideal) (arg0.view.loc (c : Thread nD τ))) (g1 : Buf (Elt Ideal) (arg1.view.loc (c : Thread nD τ)))
  (g2 : Buf (Elt Ideal) (arg2.view.loc (c : Thread nD τ))) (g3 : Buf (Elt Ideal) (arg3.view.loc (c : Thread nD τ)))
  (g4 : Buf (Elt Ideal) (arg4.view.loc (c : Thread nD τ)))
  (x t : Fin 4 → Fin 512 → Fin 512 → EReal) (w1 : Fin 4 → EReal) (w2 w3 : Fin 4 → ℝ)
  (hX : ∀ (b : Fin 4) (h w : Fin 512), XA (ix2 (⟨b.val * 512 + h.val, row_lt b h⟩ : Fin 2048) w) = x b h w)
  (hT : ∀ (b : Fin 4) (h w : Fin 512), TA (ix2 (⟨b.val * 512 + h.val, row_lt b h⟩ : Fin 2048) w) = t b h w)
  (h1 : ∀ b : Fin 4, arg0.view.read (Elt Ideal) g0 (ix1 b) = Spec.fac1 (w1 b))
  (h2 : ∀ b : Fin 4, arg1.view.read (Elt Ideal) g1 (ix1 b) = (((w2 b + 1 / w2 b) / 4096 : ℝ) : EReal))
  (hx : ∀ (b : Fin 4) (h : Fin 512), arg2.view.read (Elt Ideal) g2 (ix2 b h) = x b h 0)
  (ht : ∀ (b : Fin 4) (h : Fin 512), arg3.view.read (Elt Ideal) g3 (ix2 b h) = t b h 0)
  (h3 : ∀ b : Fin 4, arg4.view.read (Elt Ideal) g4 (ix2 b 0) = (((w3 b + 1 / w3 b) / 4096 : ℝ) : EReal))

theorem v62_eq : bodyRun.sl.v62 (F := Ideal) c arg2 g2 = k0_pay21 (F := Ideal) (k0_pay20 (F := Ideal) (arg2.view.read (Elt Ideal) g2)) := by
  unfold bodyRun.sl.v62 bodyRun.sl.HL4_1 bodyRun.sl.r_1
  rw [readCov_same, View.readAt_full]
theorem v78_eq : bodyRun.sl.v78 (F := Ideal) c arg3 g3 = k0_pay22 (F := Ideal) (arg3.view.read (Elt Ideal) g3) := by
  unfold bodyRun.sl.v78 bodyRun.sl.HL5_1
  rw [readCov_same, View.readAt_full]

include hX hT h1 h2 hx ht h3 in
/-- The number the body stores. -/
theorem body_real (i : S1x1.Idx) :
    (bodyRun c XA TA arg0 harg0 arg1 harg1 arg2 harg2 arg3 harg3 arg4 harg4 arg7 harg7 g0 g1 g2 g3 g4).1 i
      = Spec.kernelWide x t w1 w2 w3 := by
  have e : (bodyRun c XA TA arg0 harg0 arg1 harg1 arg2 harg2 arg3 harg3 arg4 harg4 arg7 harg7 g0 g1 g2 g3 g4).1
      = k0_pay1 (F := Ideal) (accN c XA TA arg0 harg0 arg1 harg1 arg2 harg2 arg3 harg3 arg4 harg4 arg7 harg7 g0 g1 (FloatOps.ofBits .f32 0#32) k0_t1_loop.trips)
          (k0_pay23 (F := Ideal) (bodyRun.sl.v62 c arg2 g2)) k0_pay24 (bodyRun.sl.v78 c arg3 g3)
          (View.readAt (Elt Ideal) arg4.view (Rect.unit (s := S4x1) ![0, 0] S4x1.size inb_S4x1_S4x1_0_0).toLoadRect g4) := rfl
  have z : (FloatOps.ofBits .f32 0#32 : Ideal .f32) = (0 : EReal) := Spec.bits_zero.trans EReal.coe_zero
  have qx := psi_4' (arg2.view.read (Elt Ideal) g2)
  have qt := psi_4 (arg3.view.read (Elt Ideal) g3)
  simp only [hx] at qx
  simp only [ht] at qt
  rw [e, v62_eq, v78_eq, View.readAt_full, z,
    acc_real c XA TA arg0 harg0 arg1 harg1 arg2 harg2 arg3 harg3 arg4 harg4 arg7 harg7 g0 g1 x t _ _ hX hT h1 h2,
    pay1_real _ _ _ _ (fun b => Spec.psiE fun h => x b h 0) (fun b => Spec.psiE fun h => t b h 0) (fun b => Spec.lineK fun h => x b h 0)
      (fun b => Spec.lineK fun h => t b h 0) _ qx qt (fun b => Spec.good_psi _) (fun b => Spec.good_psi _) h3, zero_add]
  rfl

end Cert.Proof.RunI
-- ==== Proof.KernelHostValue.lean ====
/-
  What the kernel's host code hands to the call: the three weights' factors, the images as stacks of rows, and the
  images' first columns.
-/
module

public import proofs.«01_k».proof.Proof.KernelBodyValue
public import proofs.«01_k».proof.Proof.IdealLaunch
public import Idealize.ShloMosaic.Lib.Pointwise
public import Idealize.ShloMosaic.Lib.Pipeline.ValueKit

@[expose] public section

set_option maxRecDepth 16384

noncomputable section

namespace Cert.Proof.RunI

open Cert.KernelIdeal Cert.KernelIdeal.Gen
open Idealize.ShloMosaic
open Idealize.ShloMosaic.TcCoe Idealize.ShloMosaic.Tactic
open Idealize.SL.Sem

/-- A weight with the small number added: the host's first two operations on each weight. -/
def wplus (a : FVec Ideal S4x1x1x1 .f32) : FVec Ideal S4 .f32 :=
  addf (shapeCast S4 a shapeCasts_S4x1x1x1_S4) (broadcastInDim S4 ![] bcast_S_S4 (constant S_ .f32 0x358637BD#32))

/-- A weight's factor: the sum of it and its reciprocal over a constant. -/
def wfac (a : FVec Ideal S4x1x1x1 .f32) (k : BitVec 32) : FVec Ideal S4 .f32 :=
  Host.divf (addf (wplus a) (Host.divf (broadcastInDim S4 ![] bcast_S_S4 (constant S_ .f32 0x3F800000#32)) (wplus a)))
    (broadcastInDim S4 ![] bcast_S_S4 (constant S_ .f32 k))

/-- A weight's factor is the real number it should be. -/
theorem wfac_real (a : FVec Ideal S4x1x1x1 .f32) (k : BitVec 32) (n : ℝ) (hk : Ideal.ofBits .f32 k = ((n : ℝ) : EReal)) (hn : n ≠ 0)
    (w : Fin 4 → ℝ) (hw : ∀ b : Fin 4, a (ix4 b 0 0 0) + ((Spec.e6 : ℝ) : EReal) = ((w b : ℝ) : EReal)) (n0 : ∀ b, w b ≠ 0) (b : Fin 4) :
    wfac a k (ix1 b) = (((w b + 1 / w b) / n : ℝ) : EReal) := by
  have e : wplus a (ix1 b) = ((w b : ℝ) : EReal) := by
    rw [← hw b]
    pointwise [wplus, Spec.bits_e6]
  unfold wfac
  pointwise [e, hk, Spec.bits_one]
  rw [Spec.div_real _ (n0 b), ← EReal.coe_add, Spec.div_real _ hn]

/-- The first weight's factor, whatever the weight. -/
theorem wfac_wide (a : FVec Ideal S4x1x1x1 .f32) (w : Fin 4 → EReal)
    (hw : ∀ b : Fin 4, a (ix4 b 0 0 0) + ((Spec.e6 : ℝ) : EReal) = w b) (b : Fin 4) :
    wfac a 0x49800000#32 (ix1 b) = Spec.fac1 (w b) := by
  have e : wplus a (ix1 b) = w b := by
    rw [← hw b]
    pointwise [wplus, Spec.bits_e6]
  unfold wfac Spec.fac1
  pointwise [e, Spec.bits_mega]

variable (m : (ℓ : Loc nD τ sig) → Buf (Elt Ideal) ℓ) (c : Dev nD)

theorem V13 : V m c main_v13 = wfac (m ((c : Thread nD τ).loc main_arg2)) 0x49800000#32 := by
  unfold V V0 wfac wplus
  after_results
  try rfl
theorem V18 : V m c main_v18 = wfac (m ((c : Thread nD τ).loc main_arg3)) 0x45800000#32 := by
  unfold V V0 wfac wplus
  after_results
  try rfl
theorem V24 : V m c main_v24 = shapeCast S4x1 (wfac (m ((c : Thread nD τ).loc main_arg4)) 0x45800000#32) shapeCasts_S4_S4x1 := by
  unfold V V0 wfac wplus
  after_results
  try rfl
theorem V25 : V m c main_v25 = shapeCast S2048x512 (m ((c : Thread nD τ).loc main_arg0)) shapeCasts_S4x1x512x512_S2048x512 := by
  unfold V V0
  simp only [List.flatten_cons, List.flatten_nil, List.append_nil, List.cons_append, List.nil_append, hostOps0]
  after_results
  try rfl
theorem V26 : V m c main_v26 = shapeCast S2048x512 (m ((c : Thread nD τ).loc main_arg1)) shapeCasts_S4x1x512x512_S2048x512 := by
  unfold V V0
  simp only [List.flatten_cons, List.flatten_nil, List.append_nil, List.cons_append, List.nil_append, hostOps0]
  after_results
  try rfl
theorem V28 : V m c main_v28 = shapeCast S4x512 (extractStridedSlice S4x1x512x1 ![0, 0, 0, 0] (m ((c : Thread nD τ).loc main_arg0)) slices_S4x1x512x512_S4x1x512x1_0_0_0_0) shapeCasts_S4x1x512x1_S4x512 := by
  unfold V V0
  simp only [List.flatten_cons, List.flatten_nil, List.append_nil, List.cons_append, List.nil_append, hostOps0]
  after_results
  try rfl
theorem V30 : V m c main_v30 = shapeCast S4x512 (extractStridedSlice S4x1x512x1 ![0, 0, 0, 0] (m ((c : Thread nD τ).loc main_arg1)) slices_S4x1x512x512_S4x1x512x1_0_0_0_0) shapeCasts_S4x1x512x1_S4x512 := by
  unfold V V0
  simp only [List.flatten_cons, List.flatten_nil, List.append_nil, List.cons_append, List.nil_append, hostOps0]
  after_results
  try rfl

/-! ## The call's blocks and its result -/

/-- A weight of an image, as a number. -/
abbrev weightAt (a : FVec Ideal S4x1x1x1 .f32) (b : Fin 4) : EReal := a (ix4 b 0 0 0)

/-- An image, pixel by pixel. -/
abbrev pixels (a : FVec Ideal S4x1x512x512 .f32) : Fin 4 → Fin 512 → Fin 512 → EReal := fun b h w => a (ix4 b 0 h w)

variable (w1 : Fin 4 → EReal) (w2 w3 : Fin 4 → ℝ)
  (h1 : ∀ b : Fin 4, weightAt (m ((c : Thread nD τ).loc main_arg2)) b + ((Spec.e6 : ℝ) : EReal) = w1 b) (n1 : ∀ b, w1 b ≠ 0)
  (h2 : ∀ b : Fin 4, weightAt (m ((c : Thread nD τ).loc main_arg3)) b + ((Spec.e6 : ℝ) : EReal) = ((w2 b : ℝ) : EReal)) (n2 : ∀ b, w2 b ≠ 0)
  (h3 : ∀ b : Fin 4, weightAt (m ((c : Thread nD τ).loc main_arg4)) b + ((Spec.e6 : ℝ) : EReal) = ((w3 b : ℝ) : EReal)) (n3 : ∀ b, w3 b ≠ 0)

theorem idx0 : win0_0.index t0_0 = ![0] ∧ win0_1.index t0_0 = ![0] ∧ win0_2.index t0_0 = ![0, 0] ∧ win0_3.index t0_0 = ![0, 0] ∧ win0_4.index t0_0 = ![0, 0] := by
  decide +kernel

theorem blk0 (t : Fin cfg0.N) (b : Fin 4) : iblk m c 0 t (ix1 b) = V m c main_v13 (ix1 b) := by
  blk_point [iblk, fin_N0 t, idx0]
theorem blk1 (t : Fin cfg0.N) (b : Fin 4) : iblk m c 1 t (ix1 b) = V m c main_v18 (ix1 b) := by
  blk_point [iblk, fin_N0 t, idx0]
theorem blk2 (t : Fin cfg0.N) (b : Fin 4) (h : Fin 512) : iblk m c 2 t (ix2 b h) = V m c main_v28 (ix2 b h) := by
  blk_point [iblk, fin_N0 t, idx0]
theorem blk3 (t : Fin cfg0.N) (b : Fin 4) (h : Fin 512) : iblk m c 3 t (ix2 b h) = V m c main_v30 (ix2 b h) := by
  blk_point [iblk, fin_N0 t, idx0]
theorem blk4 (t : Fin cfg0.N) (b : Fin 4) : iblk m c 4 t (ix2 b 0) = V m c main_v24 (ix2 b 0) := by
  blk_point [iblk, fin_N0 t, idx0]

/-- The reshape of an image to a stack of rows, read at a row and a column. -/
theorem rows_at (a : FVec Ideal S4x1x512x512 .f32) (b : Fin 4) (h w : Fin 512) :
    shapeCast S2048x512 a shapeCasts_S4x1x512x512_S2048x512 (ix2 (⟨b.val * 512 + h.val, row_lt b h⟩ : Fin 2048) w) = a (ix4 b 0 h w) := by
  refine shapeCast_apply _ _ _ (ix4 b 0 h w) ?_
  rw [Shape.rowMajor_val_two, Shape.rowMajor_val_four]
  show ((b.val * 1 + 0) * 512 + h.val) * 512 + w.val = (b.val * 512 + h.val) * 512 + w.val
  omega

/-- The first column of an image, read at an image and a row. -/
theorem col_at (a : FVec Ideal S4x1x512x512 .f32) (b : Fin 4) (h : Fin 512) :
    shapeCast S4x512 (extractStridedSlice S4x1x512x1 ![0, 0, 0, 0] a slices_S4x1x512x512_S4x1x512x1_0_0_0_0) shapeCasts_S4x1x512x1_S4x512 (ix2 b h)
      = a (ix4 b 0 h 0) := by
  pointwise

include h1 h2 n2 h3 n3

/-- What the body stores, once its blocks are read. -/
theorem out_real (t' : Fin cfg0.N) (i : S1x1.Idx) : outW m c t' i = Spec.kernelWide (pixels (m ((c : Thread nD τ).loc main_arg0))) (pixels (m ((c : Thread nD τ).loc main_arg1))) w1 w2 w3 := by
  unfold outW
  refine body_real _ _ _ _ _ _ _ _ _ _ _ _ _ _ _ _ _ _ _ _ (pixels _) (pixels _) w1 w2 w3 ?_ ?_ ?_ ?_ ?_ ?_ ?_ i
  · intro b h w; unfold XA; rw [V25]; exact rows_at _ b h w
  · intro b h w; unfold TA; rw [V26]; exact rows_at _ b h w
  · intro b; rw [View.read_rep]; refine (blk0 m c t' b).trans ?_; rw [V13]; exact wfac_wide _ w1 h1 b
  · intro b; rw [View.read_rep]; refine (blk1 m c t' b).trans ?_; rw [V18]; exact wfac_real _ _ _ Spec.bits_4096 (by norm_num) w2 h2 n2 b
  · intro b h; rw [View.read_rep]; refine (blk2 m c t' b h).trans ?_; rw [V28]; exact col_at _ b h
  · intro b h; rw [View.read_rep]; refine (blk3 m c t' b h).trans ?_; rw [V30]; exact col_at _ b h
  · intro b; rw [View.read_rep]; refine (blk4 m c t' b).trans ?_; rw [V24]
    refine Eq.trans ?_ (wfac_real _ _ _ Spec.bits_4096 (by norm_num) w3 h3 n3 b)
    pointwise

/-- The call's result array. -/
theorem arr_real : (dats m 0 c).arrAt 5 (cfgs 0).N = fun _ => Spec.kernelWide (pixels (m ((c : Thread nD τ).loc main_arg0))) (pixels (m ((c : Thread nD τ).loc main_arg1))) w1 w2 w3 := by
  refine (dats m 0 c).arrAt_eq_of_after_last 5 t0_0 (by decide +kernel) _ fun j => ?_
  blk_simp
  rw [after_w5]
  exact out_real m c w1 w2 w3 h1 h2 n2 h3 n3 t0_0 _

/-- The program's result array. -/
theorem result_real : Pipeline.afterTail₀ cfgs (dats m) 0 (V0 m) [hostOps1] c main_v32 = fun _ => Spec.kernelWide (pixels (m ((c : Thread nD τ).loc main_arg0))) (pixels (m ((c : Thread nD τ).loc main_arg1))) w1 w2 w3 := by
  unfold Pipeline.afterTail₀
  simp only [List.flatten_cons, List.flatten_nil, List.append_nil, List.cons_append, List.nil_append, hostOps1]
  after_results
  have e := (Pipeline.withArrays_arr (cfgs 0).spec (by decide) c (V0 m c) (fun w => (dats m 0 c).arrAt w (cfgs 0).N) 5).trans
    (arr_real m c w1 w2 w3 h1 h2 n2 h3 n3)
  erw [e]
  rfl

end Cert.Proof.RunI
-- ==== Proof.RefHist.lean ====
/-
  What the reference computes on real inputs: the histograms of the rows and of the first column, and their divergences.
-/
module

public import proofs.«01_k».proof.Proof.Wide
public import proofs.«01_k».proof.Proof.Gen.ReferenceIdeal.Read
public import Idealize.ShloMosaic.Lib.Pointwise

@[expose] public section

set_option maxRecDepth 16384

noncomputable section

namespace Cert.Proof.Ref

open Cert.ReferenceIdeal Cert.ReferenceIdeal.Gen Cert.ReferenceIdeal.Read
open Idealize.ShloMosaic Cert.Proof

/-- The centre of a bin. -/
theorem centre (k : Fin 100) : val_main_v4 (F := Ideal) (ix1 k) = ((((k : ℕ) + 1 / 2) * Spec.bw : ℝ) : EReal) := by
  pointwise [val_main_v4, val_main_v2, val_main_v0, val_main_v1, val_main_cst, val_main_v3, val_main_cst_0]
  rw [Spec.sitofp_nat k (by omega), Spec.bits_half, Spec.bits_bw, ← EReal.coe_add, ← EReal.coe_mul]

/-- The reference's choice, on real inputs. -/
theorem choose_real (x : ℝ) (k : ℕ) (z : EReal) (hz : z = 0) :
    (if Ideal.div (FloatOps.absf (F := Ideal) (φ := .f32) ((x : EReal) - ((((k : ℕ) + 1 / 2) * Spec.bw : ℝ) : EReal))) (Ideal.ofBits FTy.f32 1008981770#32) ≤ 1 then
      1 - Ideal.div (FloatOps.absf (F := Ideal) (φ := .f32) ((x : EReal) - ((((k : ℕ) + 1 / 2) * Spec.bw : ℝ) : EReal))) (Ideal.ofBits FTy.f32 1008981770#32)
    else z) = ((if Spec.dist x k ≤ 1 then 1 - Spec.dist x k else 0 : ℝ) : EReal) := by
  rw [hz, Spec.bits_bw, ← EReal.coe_sub, Spec.abs_real, Spec.div_real _ Spec.bw_pos.ne']
  change (if ((Spec.dist x k : ℝ) : EReal) ≤ 1 then 1 - ((Spec.dist x k : ℝ) : EReal) else 0) = _
  by_cases h : Spec.dist x k ≤ 1
  · rw [if_pos h, if_pos (by exact_mod_cast h), EReal.coe_sub, EReal.coe_one]
  · rw [if_neg h, if_neg (by exact_mod_cast h), EReal.coe_zero]

theorem zero_real (i : S_.Idx) : id (constant (F := Ideal) S_ FTy.f32 0#32) i = 0 := by
  show Ideal.ofBits .f32 0#32 = 0
  exact Spec.bits_zero.trans EReal.coe_zero

/-- The reference's choice: an infinite pixel lies outside every bin. -/
theorem choose_wide (a : EReal) (k : ℕ) (z : EReal) (hz : z = 0) :
    (if Ideal.div (FloatOps.absf (F := Ideal) (φ := .f32) (a - ((((k : ℕ) + 1 / 2) * Spec.bw : ℝ) : EReal))) (Ideal.ofBits FTy.f32 1008981770#32) ≤ 1 then
      1 - Ideal.div (FloatOps.absf (F := Ideal) (φ := .f32) (a - ((((k : ℕ) + 1 / 2) * Spec.bw : ℝ) : EReal))) (Ideal.ofBits FTy.f32 1008981770#32)
    else z) = ((if Spec.dist (Spec.px a) k ≤ 1 then 1 - Spec.dist (Spec.px a) k else 0 : ℝ) : EReal) := by
  by_cases h : a = ⊤ ∨ a = ⊥
  · have p : Spec.px a = -1 := if_pos h
    have g : FloatOps.absf (F := Ideal) (φ := .f32) (a - ((((k : ℕ) + 1 / 2) * Spec.bw : ℝ) : EReal)) = ⊤ := Spec.gap_top _ _ (Or.inl h)
    have d : ¬ Ideal.div ⊤ (Ideal.ofBits FTy.f32 1008981770#32) ≤ 1 := by
      rw [Spec.bits_bw, Ideal.div_coe Spec.bw_pos.ne', EReal.top_mul_coe_of_pos (one_div_pos.mpr Spec.bw_pos), not_le]
      exact EReal.coe_lt_top 1
    rw [g, if_neg d, p, if_neg (Spec.dist_out k), hz, EReal.coe_zero]
  · push Not at h
    obtain ⟨r, rfl⟩ : ∃ r : ℝ, a = (r : EReal) := ⟨a.toReal, (EReal.coe_toReal h.1 h.2).symm⟩
    rw [Spec.px_real]
    exact choose_real r k z hz

/-- The triangle weight of a pixel at a bin. -/
theorem weight (x0 : FVec Ideal S4x1x512x512 .f32) (x : Fin 4 → Fin 512 → Fin 512 → ℝ)
    (hx : ∀ b h w, x b h w = Spec.px (x0 (ix4 b 0 h w))) (b : Fin 4) (h w : Fin 512) (k : Fin 100) :
    val_main_v36 (F := Ideal) x0 (ix4 b h w k)
      = ((if Spec.dist (x b h w) k ≤ 1 then 1 - Spec.dist (x b h w) k else 0 : ℝ) : EReal) := by
  pointwise [val_main_v36, val_main_call0_v1, val_main_call0_v0, val_main_cst_9, val_main_v35, val_main_v34, val_main_cst_8,
    val_main_v33, val_main_v32, val_main_cst_7, val_main_v31, val_main_v30, val_main_cst_6, val_main_v29, val_main_v28,
    val_main_v27, val_main_v25, val_main_v26, val_main_v24, val_main_v22, centre]
  rw [hx]
  exact choose_wide _ _ _ (zero_real _)

/-- The same of a pixel of the first column. -/
theorem weight0 (x0 : FVec Ideal S4x1x512x512 .f32) (x : Fin 4 → Fin 512 → Fin 512 → ℝ)
    (hx : ∀ b h w, x b h w = Spec.px (x0 (ix4 b 0 h w))) (b : Fin 4) (h : Fin 512) (k : Fin 100) :
    val_main_v88 (F := Ideal) x0 (ix3 b h k)
      = ((if Spec.dist (x b h 0) k ≤ 1 then 1 - Spec.dist (x b h 0) k else 0 : ℝ) : EReal) := by
  pointwise [val_main_v88, val_main_call2_v1, val_main_call2_v0, val_main_cst_26, val_main_v87, val_main_v86, val_main_cst_25,
    val_main_v85, val_main_v84, val_main_cst_24, val_main_v83, val_main_v82, val_main_cst_23, val_main_v81, val_main_v80,
    val_main_v79, val_main_v77, val_main_v78, val_main_v76, val_main_v75, val_main_v74, val_main_v22, centre]
  rw [hx]
  exact choose_wide _ _ _ (zero_real _)

section
variable (x0 x1 : FVec Ideal S4x1x512x512 .f32) (x t : Fin 4 → Fin 512 → Fin 512 → ℝ)
  (hx : ∀ b h w, x b h w = Spec.px (x0 (ix4 b 0 h w))) (ht : ∀ b h w, t b h w = Spec.px (x1 (ix4 b 0 h w)))

include hx in
/-- The histogram of a row. -/
theorem hist_row (b : Fin 4) (h : Fin 512) (k : Fin 100) :
    val_main_v37 (F := Ideal) x0 (ix3 b h k) = ((Spec.hist (x b h) k : ℝ) : EReal) := by
  pointwise [val_main_v37, val_main_cst_10, weight x0 x hx]
  simp only [Spec.sum_real, zero_add]
  rfl

include hx in
/-- The histogram of the first column. -/
theorem hist_col (b : Fin 4) (k : Fin 100) :
    val_main_v89 (F := Ideal) x0 (ix2 b k) = ((Spec.hist (fun h => x b h 0) k : ℝ) : EReal) := by
  pointwise [val_main_v89, val_main_cst_27, weight0 x0 x hx]
  simp only [Spec.sum_real, zero_add]
  rfl

include hx in
/-- The normalised histogram of a row. -/
theorem pdf_row (b : Fin 4) (h : Fin 512) (k : Fin 100) :
    val_main_v43 (F := Ideal) x0 (ix3 b h k) = ((Spec.pdf (x b h) k : ℝ) : EReal) := by
  pointwise [val_main_v43, val_main_v42, val_main_v41, val_main_v40, val_main_cst_12, val_main_v39, val_main_v38, val_main_cst_11,
    hist_row x0 x hx]
  simp only [Spec.sum_real, zero_add]
  exact Spec.pdf_real _ _

include hx in
/-- The normalised histogram of the first column. -/
theorem pdf_col (b : Fin 4) (k : Fin 100) :
    val_main_v95 (F := Ideal) x0 (ix2 b k) = ((Spec.pdf (fun h => x b h 0) k : ℝ) : EReal) := by
  pointwise [val_main_v95, val_main_v94, val_main_v93, val_main_v92, val_main_cst_29, val_main_v91, val_main_v90, val_main_cst_28,
    hist_col x0 x hx]
  simp only [Spec.sum_real, zero_add]
  exact Spec.pdf_real _ _

theorem v65_eq : val_main_v65 (F := Ideal) x1 = val_main_v43 (F := Ideal) x1 := rfl
theorem v119_eq : val_main_v119 (F := Ideal) x1 = val_main_v95 (F := Ideal) x1 := rfl

include hx ht in
/-- The divergence of a row. -/
theorem kl_row (b : Fin 4) (h : Fin 512) :
    val_main_v72 (F := Ideal) x0 x1 (ix2 b h) = ((Spec.kl Spec.e5 (x b h) (t b h) : ℝ) : EReal) := by
  pointwise [val_main_v72, val_main_cst_22, val_main_v71, val_main_v70, val_main_v69, val_main_v68, val_main_v67, val_main_v66,
    val_main_cst_21, val_main_v45, val_main_v44, val_main_cst_13, v65_eq, pdf_row x0 x hx, pdf_row x1 t ht]
  simp only [Spec.bits_e5, ← EReal.coe_add, Spec.kl_real _ _ Spec.e5_pos, zero_add]

include hx ht in
/-- The divergence of the first column. -/
theorem kl_col (b : Fin 4) :
    val_main_v126 (F := Ideal) x0 x1 (ix1 b) = ((Spec.kl Spec.e6 (fun h => x b h 0) (fun h => t b h 0) : ℝ) : EReal) := by
  pointwise [val_main_v126, val_main_cst_39, val_main_v125, val_main_v124, val_main_v123, val_main_v122, val_main_v121, val_main_v120,
    val_main_cst_38, val_main_v97, val_main_v96, val_main_cst_30, v119_eq, pdf_col x0 x hx, pdf_col x1 t ht]
  simp only [Spec.bits_e6, ← EReal.coe_add, Spec.kl_real _ _ Spec.e6_pos, zero_add]

end

end Cert.Proof.Ref

end
-- ==== Proof.RefValue.lean ====
module

public import proofs.«01_k».proof.Proof.RefHist
public import Idealize.ShloMosaic.Lib.Routing.OpsOne

@[expose] public section

set_option maxRecDepth 16384

noncomputable section

namespace Cert.Proof.Ref

open Cert.ReferenceIdeal Cert.ReferenceIdeal.Gen Cert.ReferenceIdeal.Read
open Idealize.ShloMosaic Cert.Proof

/-- Update `b` of the write lands at `(b, 0, 0)`. -/
theorem lands (b : Fin 4) :
    scatter_S4x1x512_S2_S4_0_12_12_0.resultIdx? (ix1 b) (fun _ => 0#32) = some (ix3 b 0 0) := by
  fin_cases b <;> decide

/-- The two index words are zero. -/
theorem index_zero : val_main_v130 (F := Ideal) = fun _ => 0#32 := by
  funext i
  obtain ⟨k, rfl⟩ : ∃ k : Fin 2, i = ix1 k := ⟨i 0, eq_ix1 i⟩
  fin_cases k <;> rfl

/-- The column's divergence is written at place zero of each image's row, and the other places are zero. -/
theorem placed (x0 x1 : FVec Ideal S4x1x512x512 .f32) (b : Fin 4) (h : Fin 512) :
    val_main_v131 (F := Ideal) x0 x1 (ix3 b 0 h) = if h = 0 then val_main_v126 (F := Ideal) x0 x1 (ix1 b) else val_main_v127 (F := Ideal) (ix3 b 0 h) := by
  unfold val_main_v131
  rw [index_zero]
  have l : ∀ j : S4.Idx, scatter_S4x1x512_S2_S4_0_12_12_0.resultIdx? j (fun _ => 0#32) = some (ix3 b 0 h) → j = ix1 b ∧ h = 0 := by
    intro j hj
    have hj := ((lands (j 0)).symm.trans (congrArg (fun q => scatter_S4x1x512_S2_S4_0_12_12_0.resultIdx? q (fun _ => 0#32)) (eq_ix1 j).symm)).trans hj
    have e := Option.some.inj hj
    have e0 := congrFun e 0
    have e2 := congrFun e 2
    refine ⟨?_, e2.symm⟩
    rw [eq_ix1 j]
    exact congrArg ix1 e0
  by_cases hh : h = 0
  · subst hh
    rw [if_pos rfl]
    exact Routing.scatter_set_hit _ _ _ _ _ _ (fun k hk => congrArg _ (l k hk).1) (ix1 b) (lands b)
  · rw [if_neg hh]
    exact Routing.scatter_set_miss _ _ _ _ _ fun k hk => hh (l k hk).2

section
variable (x0 x1 : FVec Ideal S4x1x512x512 .f32) (x2 x3 x4 : FVec Ideal S4x1x1x1 .f32) (x t : Fin 4 → Fin 512 → Fin 512 → ℝ)
  (w1 : Fin 4 → EReal) (w2 w3 : Fin 4 → ℝ)
  (hx : ∀ b h w, x b h w = Spec.px (x0 (ix4 b 0 h w))) (ht : ∀ b h w, t b h w = Spec.px (x1 (ix4 b 0 h w)))
  (h1 : ∀ b, x2 (ix4 b 0 0 0) + ((Spec.e6 : ℝ) : EReal) = w1 b)
  (h2 : ∀ b, x3 (ix4 b 0 0 0) + ((Spec.e6 : ℝ) : EReal) = ((w2 b : ℝ) : EReal)) (n2 : ∀ b, w2 b ≠ 0)
  (h3 : ∀ b, x4 (ix4 b 0 0 0) + ((Spec.e6 : ℝ) : EReal) = ((w3 b : ℝ) : EReal)) (n3 : ∀ b, w3 b ≠ 0)

/-- A weighted term and the same term over the weight. -/
theorem both_real (a w : ℝ) (h : w ≠ 0) : ((a : ℝ) : EReal) * ((w : ℝ) : EReal) + Ideal.div ((a : ℝ) : EReal) ((w : ℝ) : EReal) = ((a * w + a / w : ℝ) : EReal) := by
  rw [Spec.div_real _ h, ← EReal.coe_mul, ← EReal.coe_add]

include h1 in
/-- The first part, before its division. -/
theorem part1 : val_main_v20 (F := Ideal) x0 x1 x2 ix0
    = Spec.firstR (fun b h w => x0 (ix4 b 0 h w)) (fun b h w => x1 (ix4 b 0 h w)) w1 := by
  have e : ∀ b h w, val_main_v19 (F := Ideal) x0 x1 x2 (ix4 b 0 h w)
      = Spec.gap (x0 (ix4 b 0 h w)) (x1 (ix4 b 0 h w)) * w1 b + Ideal.div (Spec.gap (x0 (ix4 b 0 h w)) (x1 (ix4 b 0 h w))) (w1 b) := by
    intro b h w
    pointwise [val_main_v19, val_main_v18, val_main_v17, val_main_v16, val_main_v15, val_main_v14, val_main_v13,
      val_main_v6, val_main_v5, val_main_cst_1]
    rw [Spec.bits_e6, h1]
    rfl
  have z : val_main_cst_4 (F := Ideal) (Shape.Idx.first h_S_) = 0 := Spec.bits_zero.trans EReal.coe_zero
  refine (Ideal.hostReduceAdd_total reducesTo_S4x1x512x512_S_d0_1_2_3 (fun b => b.elim0) (val_main_v19 (F := Ideal) x0 x1 x2) _ ix0).trans ?_
  rw [z, zero_add, sum_idx4]
  simp only [Fin.sum_univ_one, e]
  rfl

include hx ht h2 n2 in
/-- The second part, before its division. -/
theorem part2 : val_main_v142 (F := Ideal) x0 x1 x3 ix0
    = ((∑ b : Fin 4, ∑ h : Fin 512, (Spec.kl Spec.e5 (x b h) (t b h) * w2 b + Spec.kl Spec.e5 (x b h) (t b h) / w2 b) : ℝ) : EReal) := by
  pointwise [val_main_v142, val_main_cst_42, val_main_v136, val_main_v135, val_main_v134, val_main_v133, val_main_v132, val_main_v73,
    val_main_v9, val_main_v8, val_main_cst_2, val_main_v7, kl_row x0 x1 x t hx ht]
  simp only [Fin.sum_univ_one, Spec.bits_e6, h2, both_real _ _ (n2 _), Spec.sum_real]

include hx ht in
/-- The column's divergence in its place. -/
theorem column (b : Fin 4) (h : Fin 512) : val_main_v131 (F := Ideal) x0 x1 (ix3 b 0 h)
    = ((if h = 0 then Spec.kl Spec.e6 (fun h => x b h 0) (fun h => t b h 0) else 0 : ℝ) : EReal) := by
  rw [placed, kl_col x0 x1 x t hx ht]
  by_cases hh : h = 0
  · rw [if_pos hh, if_pos hh]
  · rw [if_neg hh, if_neg hh]
    pointwise [val_main_v127, val_main_cst_40]
    exact EReal.coe_zero.symm

include hx ht h3 n3 in
/-- The third part, before its division. -/
theorem part3 : val_main_v144 (F := Ideal) x0 x1 x4 ix0
    = ((∑ b : Fin 4, ∑ h : Fin 512,
          ((if h = 0 then Spec.kl Spec.e6 (fun h => x b h 0) (fun h => t b h 0) else 0) * w3 b
            + (if h = 0 then Spec.kl Spec.e6 (fun h => x b h 0) (fun h => t b h 0) else 0) / w3 b) : ℝ) : EReal) := by
  pointwise [val_main_v144, val_main_cst_44, val_main_v141, val_main_v140, val_main_v139, val_main_v138, val_main_v137,
    val_main_v12, val_main_v11, val_main_cst_3, val_main_v10, kl_col x0 x1 x t hx ht]
  simp only [Fin.sum_univ_one, column x0 x1 x t hx ht, Spec.bits_e6, h3, both_real _ _ (n3 _), Spec.sum_real]

include h1 h2 n2 h3 n3 in
/-- The reference's result, for images of any contents. -/
theorem value : val_main_v148 (F := Ideal) x0 x1 x2 x3 x4
    = fun _ => Spec.referenceWide (fun b h w => x0 (ix4 b 0 h w)) (fun b h w => x1 (ix4 b 0 h w)) w1 w2 w3 := by
  funext i
  obtain rfl : i = ix0 := funext fun a => a.elim0
  pointwise [val_main_v148, val_main_v147, val_main_cst_46, val_main_v146, val_main_v145, val_main_v143, val_main_v21, val_main_cst_5,
    val_main_cst_43, val_main_cst_45, part1 x0 x1 x2 w1 h1,
    part2 x0 x1 x3 (fun b h w => Spec.px (x0 (ix4 b 0 h w))) (fun b h w => Spec.px (x1 (ix4 b 0 h w))) w2 (fun _ _ _ => rfl) (fun _ _ _ => rfl) h2 n2,
    part3 x0 x1 x4 (fun b h w => Spec.px (x0 (ix4 b 0 h w))) (fun b h w => Spec.px (x1 (ix4 b 0 h w))) w3 (fun _ _ _ => rfl) (fun _ _ _ => rfl) h3 n3]
  rw [Spec.bits_mega, Spec.bits_2048, Spec.bits_two, Spec.div_real _ (by norm_num), Spec.div_real _ (by norm_num),
    ← EReal.coe_add, Spec.div_real _ (by norm_num)]
  rfl

end

end Cert.Proof.Ref
-- ==== Proof.Pre.lean ====
/-
  What the precondition gives: every weight with the small number added differs from zero, and of the second and the
  third weight it is a real number.
-/
module

public import proofs.«01_k».proof.Proof.Consts
public import proofs.«01_k».proof.Pre_weights_invert
public import proofs.«01_k».proof.Proof.Gen.Pre_weights_invert
public import Idealize.ShloMosaic.Lib.Pointwise

@[expose] public section

set_option maxRecDepth 16384

noncomputable section

namespace Cert.Proof.Pre

open Cert.Pre_weights_invert Cert.Pre_weights_invert.Gen
open Idealize.ShloMosaic

theorem bits_inf : Ideal.ofBits .f32 0x7F800000#32 = ⊤ := by simp [Ideal.ofBits, Ideal.ieee]

/-- A number whose absolute value is below infinity is real. -/
theorem real_of_abs_lt (a : EReal) (h : max a (-a) < ⊤) : ∃ r : ℝ, a = (r : EReal) := by
  induction a with
  | bot => simp at h
  | top => simp at h
  | coe r => exact ⟨r, rfl⟩

/-- A weight that passes the first test, with the small number added, differs from zero. -/
theorem weight_ne (a : FVec Ideal S4x1x1x1 .f32)
    (h : cmpf .une (addf a (broadcastInDim S4x1x1x1 ![] Facts.bcast_S_S4x1x1x1 (constant S_ .f32 0x358637BD#32)))
        (broadcastInDim S4x1x1x1 ![] Facts.bcast_S_S4x1x1x1 (constant S_ .f32 0x00000000#32)) = fun _ => 1#1)
    (i : S4x1x1x1.Idx) : (a i : EReal) + ((Spec.e6 : ℝ) : EReal) ≠ 0 := by
  have e := congrFun h i
  change BitVec.ofBool (decide ((a i : EReal) + Ideal.ofBits .f32 0x358637BD#32 ≠ Ideal.ofBits .f32 0x00000000#32)) = 1#1 at e
  rw [Spec.bits_e6, Spec.bits_zero, EReal.coe_zero] at e
  intro n
  rw [decide_eq_false (not_not_intro n)] at e
  exact absurd e (by decide)

/-- A weight that passes both tests, with the small number added, is a real number other than zero. -/
theorem weight_real (a : FVec Ideal S4x1x1x1 .f32)
    (h : andi (cmpf .olt (Host.absf a) (broadcastInDim S4x1x1x1 ![] Facts.bcast_S_S4x1x1x1 (constant S_ .f32 0x7F800000#32)))
      (cmpf .une (addf a (broadcastInDim S4x1x1x1 ![] Facts.bcast_S_S4x1x1x1 (constant S_ .f32 0x358637BD#32)))
        (broadcastInDim S4x1x1x1 ![] Facts.bcast_S_S4x1x1x1 (constant S_ .f32 0x00000000#32))) = fun _ => 1#1)
    (i : S4x1x1x1.Idx) : ∃ r : ℝ, (a i : EReal) + ((Spec.e6 : ℝ) : EReal) = (r : EReal) ∧ r ≠ 0 := by
  have e := congrFun h i
  change BitVec.ofBool (decide (max (a i : EReal) (-(a i : EReal)) < Ideal.ofBits .f32 0x7F800000#32))
    &&& BitVec.ofBool (decide ((a i : EReal) + Ideal.ofBits .f32 0x358637BD#32 ≠ Ideal.ofBits .f32 0x00000000#32)) = 1#1 at e
  rw [bits_inf, Spec.bits_e6, Spec.bits_zero] at e
  have p : max (a i : EReal) (-(a i : EReal)) < ⊤ := by
    by_contra n
    rw [decide_eq_false n] at e
    revert e
    cases decide ((a i : EReal) + ((Spec.e6 : ℝ) : EReal) ≠ ((0 : ℝ) : EReal)) <;> decide
  have q : (a i : EReal) + ((Spec.e6 : ℝ) : EReal) ≠ ((0 : ℝ) : EReal) := by
    by_contra n
    rw [decide_eq_false (not_not_intro n)] at e
    revert e
    cases decide (max (a i : EReal) (-(a i : EReal)) < ⊤) <;> decide
  obtain ⟨r, hr⟩ := real_of_abs_lt (a i) p
  refine ⟨r + Spec.e6, ?_, ?_⟩
  · rw [hr, EReal.coe_add]
  · intro z
    rw [hr, ← EReal.coe_add, z] at q
    exact q rfl

end Cert.Proof.Pre
-- ==== Proof.lean ====
/-
  The certificate of the projection-loss kernel: its two programs end and keep their arguments, its ideal program is its
  own text read over the reals, and over the reals its one result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_weights_invert
public import proofs.«01_k».proof.Proof.IdealLaunch
public import proofs.«01_k».proof.Proof.KernelLaunch
public import proofs.«01_k».proof.Proof.KernelHostValue
public import proofs.«01_k».proof.Proof.RefValue
public import proofs.«01_k».proof.Proof.Pre

@[expose] public section

noncomputable section

namespace Cert.Proof

open Idealize.ShloMosaic Idealize.SL.Sem

/-- The kernel ends, keeps its arguments and leaves every semaphore at zero. -/
theorem quiescent_kernel : quiescent_Kernel (hKernel := Cert.Kernel.Gen.facts) :=
  fun m g _ => Cert.Proof.RunK.frame_run m g

/-- The kernel over the reals ends, keeps its arguments and leaves every semaphore at zero. -/
theorem quiescent_ideal : quiescent_KernelIdeal (hKernelIdeal := Cert.KernelIdeal.Gen.facts) :=
  fun m g _ => Cert.Proof.RunI.frame_run m g

/-- The reference over the reals ends, keeps its arguments and leaves every semaphore at zero. -/
theorem quiescent_reference : quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The ideal kernel differs from the kernel in one constant, the exact reciprocal of the bin width. -/
theorem preserves : preserves_Kernel_KernelIdeal :=
  IdealRules.named_const.statement Cert.KernelIdeal.κ "inv_bw" .f32 0x42C80000#32 _ rfl

/-- For images of any contents, with weights that have reciprocals, the ideal kernel and the ideal reference return the
    same number: each equals the loss in its own spelling, and the two spellings agree. -/
theorem algebraic : algebraic_KernelIdeal_ReferenceIdeal_pre_weights_invert := by
  intro m g m' g' hpre hargs
  have key : ∀ c : Dev Cert.KernelIdeal.nD, ∃ v : EReal,
      (Pipeline.afterTail₀ Cert.KernelIdeal.cfgs (Cert.Proof.RunI.dats m) 0 (Cert.KernelIdeal.Gen.V0 m) [Cert.KernelIdeal.Gen.hostOps1] c Cert.KernelIdeal.main_v32
        = fun _ => v)
      ∧ Cert.ReferenceIdeal.Read.val_main_v148 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
        = fun _ => v := fun c => by
    obtain ⟨p2, p3, p4⟩ := hpre c
    obtain ⟨a0, a1, a2, a3, a4⟩ := hargs c
    have n1 := fun b : Fin 4 => Cert.Proof.Pre.weight_ne _ p2 (ix4 b 0 0 0)
    choose w2 h2 n2 using fun b : Fin 4 => Cert.Proof.Pre.weight_real _ p3 (ix4 b 0 0 0)
    choose w3 h3 n3 using fun b : Fin 4 => Cert.Proof.Pre.weight_real _ p4 (ix4 b 0 0 0)
    refine ⟨_, Cert.Proof.RunI.result_real m c _ w2 w3 (fun _ => rfl) h2 n2 h3 n3, ?_⟩
    rw [a0, a1, a2, a3, a4, Cert.Proof.Spec.wide_eq _ _ _ _ _ n1]
    exact Cert.Proof.Ref.value _ _ _ _ _ _ w2 w3 (fun _ => rfl) h2 n2 h3 n3
  choose v hk hr using key
  refine ⟨fun c => fun _ => v c, ?_, ?_⟩
  · refine (θ_run Cert.KernelIdeal.defs _ _).mono (fun r h c => ?_) (Cert.Proof.RunI.run_main (F := Ideal) m g)
    exact ⟨((h.1 c).2 Cert.KernelIdeal.main_v32 (Pipeline.mem_restRefs_of Cert.KernelIdeal.main_v32 (by decide) (by decide))).trans (hk c),
      Cert.Proof.RunI.args_kept m h.1 c⟩
  · refine (θ_run Cert.ReferenceIdeal.defs _ _).mono (fun r h c => ?_) (Cert.ReferenceIdeal.Value.run (F := Ideal) m' g')
    exact ⟨(h c).1.trans ((Cert.ReferenceIdeal.Read.val_main_v148_eq (StableHlo.launchContents m' c)).trans (hr c)), (h c).2⟩

/-- The certificate's claim. -/
theorem claim : Cert.Claim :=
  ⟨Cert.Kernel.Gen.facts, Cert.KernelIdeal.Gen.facts, Cert.ReferenceIdeal.Gen.facts, Cert.Pre_weights_invert.Gen.facts,
    quiescent_kernel, quiescent_ideal, fun m g _ => quiescent_ideal m g trivial,
    quiescent_reference, fun m g _ => quiescent_reference m g trivial, preserves, algebraic⟩

end Cert.Proof

end
